-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_OrderedIdeal (m : (ℓ : Loc Cert.OrderedIdeal.nD Cert.OrderedIdeal.τ Cert.OrderedIdeal.sig) → Buf (Elt Ideal) ℓ) : Prop :=
  True

def Pre_OrderedIdeal_in_range [hPre_in_range : Cert.Pre_in_range.Facts] (m : (ℓ : Loc Cert.OrderedIdeal.nD Cert.OrderedIdeal.τ Cert.OrderedIdeal.sig) → Buf (Elt Ideal) ℓ) : Prop :=
  ∀ c : Dev Cert.OrderedIdeal.nD,
    (Cert.Pre_in_range.fn (F := Ideal) (m ((c.tc : Thread Cert.OrderedIdeal.nD Cert.OrderedIdeal.τ).loc Cert.OrderedIdeal.main_arg0)) (m ((c.tc : Thread Cert.OrderedIdeal.nD Cert.OrderedIdeal.τ).loc Cert.OrderedIdeal.main_arg1)) (m ((c.tc : Thread Cert.OrderedIdeal.nD Cert.OrderedIdeal.τ).loc Cert.OrderedIdeal.main_arg2))) = (fun _ => 1#1)

def Pre_Ordered [hPre_in_range : Cert.Pre_in_range.Facts] (m : (ℓ : Loc Cert.Ordered.nD Cert.Ordered.τ Cert.Ordered.sig) → Buf (Elt Bits) ℓ) : Prop :=
  ∀ c : Dev Cert.Ordered.nD,
    (Cert.Pre_in_range.fn (F := Bits) (m ((c.tc : Thread Cert.Ordered.nD Cert.Ordered.τ).loc Cert.Ordered.main_arg0)) (m ((c.tc : Thread Cert.Ordered.nD Cert.Ordered.τ).loc Cert.Ordered.main_arg1)) (m ((c.tc : Thread Cert.Ordered.nD Cert.Ordered.τ).loc Cert.Ordered.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_OrderedIdeal [hOrderedIdeal : Cert.OrderedIdeal.Facts] : Prop :=
  ∀ (m : (ℓ : Loc Cert.OrderedIdeal.nD Cert.OrderedIdeal.τ Cert.OrderedIdeal.sig) → Buf (Elt Ideal) ℓ) (g : Dev Cert.OrderedIdeal.nD → PrngReg), Pre_OrderedIdeal m →
    θ_run (Cert.OrderedIdeal.defs (F := Ideal)) (onTc (τ := Cert.OrderedIdeal.τ) (Cert.OrderedIdeal.main (F := Ideal))) ⟨m, fun _ => 0, g⟩ (fun r => (∀ c : Dev Cert.OrderedIdeal.nD,
      r.2.mem ((c.tc : Thread Cert.OrderedIdeal.nD Cert.OrderedIdeal.τ).loc Cert.OrderedIdeal.main_arg0) = m ((c.tc : Thread Cert.OrderedIdeal.nD Cert.OrderedIdeal.τ).loc Cert.OrderedIdeal.main_arg0)
      ∧ r.2.mem ((c.tc : Thread Cert.OrderedIdeal.nD Cert.OrderedIdeal.τ).loc Cert.OrderedIdeal.main_arg1) = m ((c.tc : Thread Cert.OrderedIdeal.nD Cert.OrderedIdeal.τ).loc Cert.OrderedIdeal.main_arg1)
      ∧ r.2.mem ((c.tc : Thread Cert.OrderedIdeal.nD Cert.OrderedIdeal.τ).loc Cert.OrderedIdeal.main_arg2) = m ((c.tc : Thread Cert.OrderedIdeal.nD Cert.OrderedIdeal.τ).loc Cert.OrderedIdeal.main_arg2))
      ∧ r.2.sem = fun _ => 0)

def quiescent_OrderedIdeal_pre_in_range [hOrderedIdeal : Cert.OrderedIdeal.Facts] [hPre_in_range : Cert.Pre_in_range.Facts] : Prop :=
  ∀ (m : (ℓ : Loc Cert.OrderedIdeal.nD Cert.OrderedIdeal.τ Cert.OrderedIdeal.sig) → Buf (Elt Ideal) ℓ) (g : Dev Cert.OrderedIdeal.nD → PrngReg), Pre_OrderedIdeal_in_range m →
    θ_run (Cert.OrderedIdeal.defs (F := Ideal)) (onTc (τ := Cert.OrderedIdeal.τ) (Cert.OrderedIdeal.main (F := Ideal))) ⟨m, fun _ => 0, g⟩ (fun r => (∀ c : Dev Cert.OrderedIdeal.nD,
      r.2.mem ((c.tc : Thread Cert.OrderedIdeal.nD Cert.OrderedIdeal.τ).loc Cert.OrderedIdeal.main_arg0) = m ((c.tc : Thread Cert.OrderedIdeal.nD Cert.OrderedIdeal.τ).loc Cert.OrderedIdeal.main_arg0)
      ∧ r.2.mem ((c.tc : Thread Cert.OrderedIdeal.nD Cert.OrderedIdeal.τ).loc Cert.OrderedIdeal.main_arg1) = m ((c.tc : Thread Cert.OrderedIdeal.nD Cert.OrderedIdeal.τ).loc Cert.OrderedIdeal.main_arg1)
      ∧ r.2.mem ((c.tc : Thread Cert.OrderedIdeal.nD Cert.OrderedIdeal.τ).loc Cert.OrderedIdeal.main_arg2) = m ((c.tc : Thread Cert.OrderedIdeal.nD Cert.OrderedIdeal.τ).loc Cert.OrderedIdeal.main_arg2))
      ∧ r.2.sem = fun _ => 0)

def quiescent_Ordered [hOrdered : Cert.Ordered.Facts] [hPre_in_range : Cert.Pre_in_range.Facts] : Prop :=
  ∀ (m : (ℓ : Loc Cert.Ordered.nD Cert.Ordered.τ Cert.Ordered.sig) → Buf (Elt Bits) ℓ) (g : Dev Cert.Ordered.nD → PrngReg), Pre_Ordered m →
    θ_run (Cert.Ordered.defs (F := Bits)) (onTc (τ := Cert.Ordered.τ) (Cert.Ordered.main (F := Bits))) ⟨m, fun _ => 0, g⟩ (fun r => (∀ c : Dev Cert.Ordered.nD,
      r.2.mem ((c.tc : Thread Cert.Ordered.nD Cert.Ordered.τ).loc Cert.Ordered.main_arg0) = m ((c.tc : Thread Cert.Ordered.nD Cert.Ordered.τ).loc Cert.Ordered.main_arg0)
      ∧ r.2.mem ((c.tc : Thread Cert.Ordered.nD Cert.Ordered.τ).loc Cert.Ordered.main_arg1) = m ((c.tc : Thread Cert.Ordered.nD Cert.Ordered.τ).loc Cert.Ordered.main_arg1)
      ∧ r.2.mem ((c.tc : Thread Cert.Ordered.nD Cert.Ordered.τ).loc Cert.Ordered.main_arg2) = m ((c.tc : Thread Cert.Ordered.nD Cert.Ordered.τ).loc Cert.Ordered.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_OrderedIdeal [hKernelIdeal : Cert.KernelIdeal.Facts] [hOrderedIdeal : Cert.OrderedIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.OrderedIdeal.nD Cert.OrderedIdeal.τ Cert.OrderedIdeal.sig) → Buf (Elt Ideal) ℓ) (g' : Dev Cert.OrderedIdeal.nD → PrngReg), Pre_KernelIdeal m →
    (∀ c : Dev Cert.KernelIdeal.nD,
      m' ((c.tc : Thread Cert.OrderedIdeal.nD Cert.OrderedIdeal.τ).loc Cert.OrderedIdeal.main_arg0) = m ((c.tc : Thread Cert.KernelIdeal.nD Cert.KernelIdeal.τ).loc Cert.KernelIdeal.main_arg0)
      ∧ m' ((c.tc : Thread Cert.OrderedIdeal.nD Cert.OrderedIdeal.τ).loc Cert.OrderedIdeal.main_arg1) = m ((c.tc : Thread Cert.KernelIdeal.nD Cert.KernelIdeal.τ).loc Cert.KernelIdeal.main_arg1)
      ∧ m' ((c.tc : Thread Cert.OrderedIdeal.nD Cert.OrderedIdeal.τ).loc Cert.OrderedIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.OrderedIdeal.defs (F := Ideal)) (onTc (τ := Cert.OrderedIdeal.τ) (Cert.OrderedIdeal.main (F := Ideal))) ⟨m', fun _ => 0, g'⟩ (fun r => ∀ c : Dev Cert.OrderedIdeal.nD,
          r.2.mem ((c.tc : Thread Cert.OrderedIdeal.nD Cert.OrderedIdeal.τ).loc Cert.OrderedIdeal.main_v18) = v0 c
          ∧ r.2.mem ((c.tc : Thread Cert.OrderedIdeal.nD Cert.OrderedIdeal.τ).loc Cert.OrderedIdeal.main_arg0) = m' ((c.tc : Thread Cert.OrderedIdeal.nD Cert.OrderedIdeal.τ).loc Cert.OrderedIdeal.main_arg0)
          ∧ r.2.mem ((c.tc : Thread Cert.OrderedIdeal.nD Cert.OrderedIdeal.τ).loc Cert.OrderedIdeal.main_arg1) = m' ((c.tc : Thread Cert.OrderedIdeal.nD Cert.OrderedIdeal.τ).loc Cert.OrderedIdeal.main_arg1)
          ∧ r.2.mem ((c.tc : Thread Cert.OrderedIdeal.nD Cert.OrderedIdeal.τ).loc Cert.OrderedIdeal.main_arg2) = m' ((c.tc : Thread Cert.OrderedIdeal.nD Cert.OrderedIdeal.τ).loc Cert.OrderedIdeal.main_arg2))

def algebraic_KernelIdeal_ReferenceIdeal_on_settled [hKernelIdeal : Cert.KernelIdeal.Facts] [hReferenceIdeal : Cert.ReferenceIdeal.Facts] [hPre_in_range : Cert.Pre_in_range.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          (∀ i : (⟨2, ![262144, 128]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v8) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![262144, 128]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v17) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Ordered [hKernel : Cert.Kernel.Facts] [hOrdered : Cert.Ordered.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Ordered.nD Cert.Ordered.τ Cert.Ordered.sig) → Buf (Elt Bits) ℓ) (g' : Dev Cert.Ordered.nD → PrngReg), Pre_Kernel m →
    (∀ c : Dev Cert.Kernel.nD,
      m' ((c.tc : Thread Cert.Ordered.nD Cert.Ordered.τ).loc Cert.Ordered.main_arg0) = m ((c.tc : Thread Cert.Kernel.nD Cert.Kernel.τ).loc Cert.Kernel.main_arg0)
      ∧ m' ((c.tc : Thread Cert.Ordered.nD Cert.Ordered.τ).loc Cert.Ordered.main_arg1) = m ((c.tc : Thread Cert.Kernel.nD Cert.Kernel.τ).loc Cert.Kernel.main_arg1)
      ∧ m' ((c.tc : Thread Cert.Ordered.nD Cert.Ordered.τ).loc Cert.Ordered.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v8)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v8) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Ordered.defs (F := Bits)) (onTc (τ := Cert.Ordered.τ) (Cert.Ordered.main (F := Bits))) ⟨m', fun _ => 0, g'⟩ (fun r => ∀ c : Dev Cert.Ordered.nD,
          r.2.mem ((c.tc : Thread Cert.Ordered.nD Cert.Ordered.τ).loc Cert.Ordered.main_v18) = v0 c
          ∧ r.2.mem ((c.tc : Thread Cert.Ordered.nD Cert.Ordered.τ).loc Cert.Ordered.main_arg0) = m' ((c.tc : Thread Cert.Ordered.nD Cert.Ordered.τ).loc Cert.Ordered.main_arg0)
          ∧ r.2.mem ((c.tc : Thread Cert.Ordered.nD Cert.Ordered.τ).loc Cert.Ordered.main_arg1) = m' ((c.tc : Thread Cert.Ordered.nD Cert.Ordered.τ).loc Cert.Ordered.main_arg1)
          ∧ r.2.mem ((c.tc : Thread Cert.Ordered.nD Cert.Ordered.τ).loc Cert.Ordered.main_arg2) = m' ((c.tc : Thread Cert.Ordered.nD Cert.Ordered.τ).loc Cert.Ordered.main_arg2))

def bitexact_Kernel_Reference_on_settled [hKernel : Cert.Kernel.Facts] [hReference : Cert.Reference.Facts] [hPre_in_range : Cert.Pre_in_range.Facts] [hOn_settled : Cert.On_settled.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v8)),
      θ_run (Cert.Kernel.defs (F := Bits)) (Cert.Kernel.threads (F := Bits)) ⟨m, fun _ => 0, g⟩ (fun r => ∀ c : Dev Cert.Kernel.nD,
          (∀ i : (⟨2, ![262144, 128]⟩ : Shape).Idx, (Cert.On_settled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) i = 1#1 → r.2.mem ((c.tc : Thread Cert.Kernel.nD Cert.Kernel.τ).loc Cert.Kernel.main_v8) i = v0 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          (∀ i : (⟨2, ![262144, 128]⟩ : Shape).Idx, (Cert.On_settled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) i = 1#1 → r.2.mem ((c.tc : Thread Cert.Reference.nD Cert.Reference.τ).loc Cert.Reference.main_v17) i = v0 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hOrderedIdeal : Cert.OrderedIdeal.Facts) (hOrdered : Cert.Ordered.Facts) (hReference : Cert.Reference.Facts) (hPre_in_range : Cert.Pre_in_range.Facts) (hOn_settled : Cert.On_settled.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_OrderedIdeal (hOrderedIdeal := hOrderedIdeal)
    ∧ quiescent_OrderedIdeal_pre_in_range (hOrderedIdeal := hOrderedIdeal) (hPre_in_range := hPre_in_range)
    ∧ quiescent_Ordered (hOrdered := hOrdered) (hPre_in_range := hPre_in_range)
    ∧ quiescent_Reference (hReference := hReference) (hPre_in_range := hPre_in_range)
    ∧ preserves_Kernel_KernelIdeal
    ∧ algebraic_KernelIdeal_OrderedIdeal (hKernelIdeal := hKernelIdeal) (hOrderedIdeal := hOrderedIdeal) (hPre_in_range := hPre_in_range)
    ∧ algebraic_KernelIdeal_ReferenceIdeal_on_settled (hKernelIdeal := hKernelIdeal) (hReferenceIdeal := hReferenceIdeal) (hPre_in_range := hPre_in_range) (hOn_settled := hOn_settled)
    ∧ bitexact_Kernel_Ordered (hKernel := hKernel) (hOrdered := hOrdered) (hPre_in_range := hPre_in_range)
    ∧ bitexact_Kernel_Reference_on_settled (hKernel := hKernel) (hReference := hReference) (hPre_in_range := hPre_in_range) (hOn_settled := hOn_settled)
-- ==== On_settled.lean ====
abbrev S262144x128 : Shape := ⟨2, ![262144, 128]⟩
abbrev S262144x4x2 : Shape := ⟨3, ![262144, 4, 2]⟩
abbrev S262144x4 : Shape := ⟨2, ![262144, 4]⟩
abbrev S_ : Shape := ⟨0, ![]⟩
abbrev S262144x4x1 : Shape := ⟨3, ![262144, 4, 1]⟩

class Facts : Prop where
  bcast_S_S262144x128 : S_.BroadcastsInDim S262144x128 (![] : Fin 0 → Fin S262144x128.rank)
  slices_S262144x4x2_S262144x4x1_0_0_0 : S262144x4x2.Slices ![0, 0, 0] S262144x4x1
  shapeCasts_S262144x4x1_S262144x4 : S262144x4x1.ShapeCasts S262144x4
  slices_S262144x4x2_S262144x4x1_0_0_1 : S262144x4x2.Slices ![0, 0, 1] S262144x4x1
  bcast_S_S262144x4 : S_.BroadcastsInDim S262144x4 (![] : Fin 0 → Fin S262144x4.rank)
  bcast_S262144x4_S262144x4x1_0_1 : S262144x4.BroadcastsInDim S262144x4x1 (![0, 1] : Fin 2 → Fin S262144x4x1.rank)
  concatenates_S262144x4x1_S262144x4x1_S262144x4x2_d2 : Shape.Concatenates [S262144x4x1, S262144x4x1] S262144x4x2 2
  scatter_S262144x128_S262144x4x2_S262144x4_n_01_01_2_wf : ScatterDims.WF S262144x128 S262144x4x2 S262144x4 [] [0, 1] [0, 1] 2

variable [Facts]

def scatter_S262144x128_S262144x4x2_S262144x4_n_01_01_2 : ScatterDims S262144x128 S262144x4x2 S262144x4 where
  updateWindowDims := []
  insertedWindowDims := [0, 1]
  scatterDimsToOperandDims := [0, 1]
  indexVectorDim := 2
  wf := scatter_S262144x128_S262144x4x2_S262144x4_n_01_01_2_wf
def fn_part1 {F : FTy → Type} [FloatOps F] (main_v0 : IVec S262144x128 32) (main_v17 : IVec S262144x4x2 32) (main_c_4 : IVec S_ 32) : IVec S262144x128 1 :=
  let main_v18 : IVec S262144x4 32 := broadcastInDim S262144x4 ![] bcast_S_S262144x4 main_c_4
  let main_v19 : IVec S262144x128 32 := (fun x i u => Host.scatter scatter_S262144x128_S262144x4x2_S262144x4_n_01_01_2 IntOp.addi x i u) main_v0 main_v17 main_v18
  let main_c_5 : IVec S_ 32 := constantI S_ 32 1#32
  let main_v20 : IVec S262144x128 32 := broadcastInDim S262144x128 ![] bcast_S_S262144x128 main_c_5
  let main_v21 : IVec S262144x128 1 := cmpi .sle main_v19 main_v20
  main_v21

def fn {F : FTy → Type} [FloatOps F] (main_arg0 : FVec F S262144x128 .f32) (main_arg1 : IVec S262144x4x2 32) (main_arg2 : FVec F S262144x4 .f32) : IVec S262144x128 1 :=
  let main_c : IVec S_ 32 := constantI S_ 32 0#32
  let main_v0 : IVec S262144x128 32 := broadcastInDim S262144x128 ![] bcast_S_S262144x128 main_c
  let main_v1 : IVec S262144x4x1 32 := (extractStridedSlice S262144x4x1 ![0, 0, 0] · slices_S262144x4x2_S262144x4x1_0_0_0) main_arg1
  let main_v2 : IVec S262144x4 32 := shapeCast S262144x4 main_v1 shapeCasts_S262144x4x1_S262144x4
  let main_v3 : IVec S262144x4x1 32 := (extractStridedSlice S262144x4x1 ![0, 0, 1] · slices_S262144x4x2_S262144x4x1_0_0_1) main_arg1
  let main_v4 : IVec S262144x4 32 := shapeCast S262144x4 main_v3 shapeCasts_S262144x4x1_S262144x4
  let main_c_0 : IVec S_ 32 := constantI S_ 32 0#32
  let main_v5 : IVec S262144x4 32 := broadcastInDim S262144x4 ![] bcast_S_S262144x4 main_c_0
  let main_v6 : IVec S262144x4 1 := cmpi .slt main_v2 main_v5
  let main_c_1 : IVec S_ 32 := constantI S_ 32 262144#32
  let main_v7 : IVec S262144x4 32 := broadcastInDim S262144x4 ![] bcast_S_S262144x4 main_c_1
  let main_v8 : IVec S262144x4 32 := addi main_v2 main_v7
  let main_v9 : IVec S262144x4 32 := select main_v6 main_v8 main_v2
  let main_c_2 : IVec S_ 32 := constantI S_ 32 0#32
  let main_v10 : IVec S262144x4 32 := broadcastInDim S262144x4 ![] bcast_S_S262144x4 main_c_2
  let main_v11 : IVec S262144x4 1 := cmpi .slt main_v4 main_v10
  let main_c_3 : IVec S_ 32 := constantI S_ 32 128#32
  let main_v12 : IVec S262144x4 32 := broadcastInDim S262144x4 ![] bcast_S_S262144x4 main_c_3
  let main_v13 : IVec S262144x4 32 := addi main_v4 main_v12
  let main_v14 : IVec S262144x4 32 := select main_v11 main_v13 main_v4
  let main_v15 : IVec S262144x4x1 32 := broadcastInDim S262144x4x1 ![0, 1] bcast_S262144x4_S262144x4x1_0_1 main_v9
  let main_v16 : IVec S262144x4x1 32 := broadcastInDim S262144x4x1 ![0, 1] bcast_S262144x4_S262144x4x1_0_1 main_v14
  let main_v17 : IVec S262144x4x2 32 := (fun a b => concatenate S262144x4x2 2 [⟨S262144x4x1, a⟩, ⟨S262144x4x1, b⟩] concatenates_S262144x4x1_S262144x4x1_S262144x4x2_d2) main_v15 main_v16
  let main_c_4 : IVec S_ 32 := constantI S_ 32 1#32
  fn_part1 (F := F) main_v0 main_v17 main_c_4
-- ==== Pre_in_range.lean ====
abbrev S262144x128 : Shape := ⟨2, ![262144, 128]⟩
abbrev S262144x4x2 : Shape := ⟨3, ![262144, 4, 2]⟩
abbrev S262144x4 : Shape := ⟨2, ![262144, 4]⟩
abbrev S_ : Shape := ⟨0, ![]⟩

class Facts : Prop where
  bcast_S_S262144x4x2 : S_.BroadcastsInDim S262144x4x2 (![] : Fin 0 → Fin S262144x4x2.rank)

variable [Facts]

def fn {F : FTy → Type} [FloatOps F] (main_arg0 : FVec F S262144x128 .f32) (main_arg1 : IVec S262144x4x2 32) (main_arg2 : FVec F S262144x4 .f32) : IVec S262144x4x2 1 :=
  let main_c : IVec S_ 32 := constantI S_ 32 0#32
  let main_v0 : IVec S262144x4x2 32 := broadcastInDim S262144x4x2 ![] bcast_S_S262144x4x2 main_c
  let main_v1 : IVec S262144x4x2 1 := cmpi .sge main_arg1 main_v0
  let main_c_0 : IVec S_ 32 := constantI S_ 32 128#32
  let main_v2 : IVec S262144x4x2 32 := broadcastInDim S262144x4x2 ![] bcast_S_S262144x4x2 main_c_0
  let main_v3 : IVec S262144x4x2 1 := cmpi .slt main_arg1 main_v2
  let main_v4 : IVec S262144x4x2 1 := andi main_v1 main_v3
  main_v4
-- ==== Kernel.lean ====
abbrev S262144x128 : Shape := ⟨2, ![262144, 128]⟩
abbrev S262144x4x2 : Shape := ⟨3, ![262144, 4, 2]⟩
abbrev S262144x4 : Shape := ⟨2, ![262144, 4]⟩
abbrev S4x2x262144 : Shape := ⟨3, ![4, 2, 262144]⟩
abbrev S4x262144 : Shape := ⟨2, ![4, 262144]⟩
abbrev S1048576 : Shape := ⟨1, ![1048576]⟩
abbrev S4x2x4096 : Shape := ⟨3, ![4, 2, 4096]⟩
abbrev S4x4096 : Shape := ⟨2, ![4, 4096]⟩
abbrev S16384 : Shape := ⟨1, ![16384]⟩
abbrev S_ : Shape := ⟨0, ![]⟩
abbrev S16 : Shape := ⟨1, ![16]⟩
abbrev S16384x128 : Shape := ⟨2, ![16384, 128]⟩
abbrev S32x16384 : Shape := ⟨2, ![32, 16384]⟩
abbrev S32784 : Shape := ⟨1, ![32784]⟩
abbrev S32768 : Shape := ⟨1, ![32768]⟩
abbrev S8 : Shape := ⟨1, ![8]⟩
abbrev S1x16384 : Shape := ⟨2, ![1, 16384]⟩
abbrev S32x128x128 : Shape := ⟨3, ![32, 128, 128]⟩
abbrev S128x128 : Shape := ⟨2, ![128, 128]⟩
abbrev S1x128x128 : Shape := ⟨3, ![1, 128, 128]⟩

abbrev nBuf : Table → Nat
  | .hbm => 15
  | .local .tc .vmem => 8
  | .local .scVector .vmem => 8
  | _ => 0

abbrev bufTy : (tb : Table) → Fin (nBuf tb) → BufTy
  | .hbm, ⟨0, _⟩ => ⟨S262144x128, .f32⟩
  | .hbm, ⟨1, _⟩ => ⟨S262144x4x2, .i32⟩
  | .hbm, ⟨2, _⟩ => ⟨S262144x4, .f32⟩
  | .hbm, ⟨3, _⟩ => ⟨S4x2x262144, .i32⟩
  | .hbm, ⟨4, _⟩ => ⟨S4x262144, .f32⟩
  | .hbm, ⟨5, _⟩ => ⟨S1048576, .i32⟩
  | .hbm, ⟨6, _⟩ => ⟨S1048576, .f32⟩
  | .hbm, ⟨7, _⟩ => ⟨S262144x128, .f32⟩
  | .hbm, ⟨8, _⟩ => ⟨S1048576, .i32⟩
  | .hbm, ⟨9, _⟩ => ⟨S1048576, .f32⟩
  | .hbm, ⟨10, _⟩ => ⟨S32x16384, .i32⟩
  | .hbm, ⟨11, _⟩ => ⟨S32x16384, .f32⟩
  | .hbm, ⟨12, _⟩ => ⟨S32x128x128, .i32⟩
  | .hbm, ⟨13, _⟩ => ⟨S32x128x128, .f32⟩
  | .hbm, ⟨14, _⟩ => ⟨S262144x128, .f32⟩
  | .local .tc .vmem, ⟨0, _⟩ => ⟨S16384x128, .f32⟩
  | .local .tc .vmem, ⟨1, _⟩ => ⟨S16384x128, .f32⟩
  | .local .tc .vmem, ⟨2, _⟩ => ⟨S16384x128, .f32⟩
  | .local .tc .vmem, ⟨3, _⟩ => ⟨S16384x128, .f32⟩
  | .local .tc .vmem, ⟨4, _⟩ => ⟨S128x128, .f32⟩
  | .local .tc .vmem, ⟨5, _⟩ => ⟨S32x128x128, .i32⟩
  | .local .tc .vmem, ⟨6, _⟩ => ⟨S32x128x128, .f32⟩
  | .local .tc .vmem, ⟨7, _⟩ => ⟨S128x128, .f32⟩
  | .local .scVector .vmem, ⟨0, _⟩ => ⟨S4x2x4096, .i32⟩
  | .local .scVector .vmem, ⟨1, _⟩ => ⟨S4x4096, .f32⟩
  | .local .scVector .vmem, ⟨2, _⟩ => ⟨S16384, .i32⟩
  | .local .scVector .vmem, ⟨3, _⟩ => ⟨S16384, .f32⟩
  | .local .scVector .vmem, ⟨4, _⟩ => ⟨S32784, .i32⟩
  | .local .scVector .vmem, ⟨5, _⟩ => ⟨S32768, .f32⟩
  | .local .scVector .vmem, ⟨6, _⟩ => ⟨S16384, .i32⟩
  | .local .scVector .vmem, ⟨7, _⟩ => ⟨S16384, .f32⟩
  | _, _ => ⟨S262144x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v0_scv : Ref sig .scVector := ⟨.hbm, 3, rfl⟩
abbrev main_v1_scv : Ref sig .scVector := ⟨.hbm, 4, rfl⟩
abbrev main_v2_0_scv : Ref sig .scVector := ⟨.hbm, 5, rfl⟩
abbrev main_v2_1_scv : Ref sig .scVector := ⟨.hbm, 6, rfl⟩
abbrev main_v4_0_scv : Ref sig .scVector := ⟨.hbm, 8, rfl⟩
abbrev main_v4_1_scv : Ref sig .scVector := ⟨.hbm, 9, rfl⟩
abbrev main_v5_0_scv : Ref sig .scVector := ⟨.hbm, 10, rfl⟩
abbrev main_v5_1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc3_stg0_0 : Ref sig .tc := ⟨.vmem, 4, rfl⟩
abbrev cc3_stg1_0 : Ref sig .tc := ⟨.vmem, 5, rfl⟩
abbrev cc3_stg2_0 : Ref sig .tc := ⟨.vmem, 6, rfl⟩
abbrev cc3_stg3_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc1_sem0_0 : DmaSem sig := 6
abbrev cc1_sem0_1 : DmaSem sig := 7
abbrev cc1_sem1_0 : DmaSem sig := 8
abbrev cc1_sem1_1 : DmaSem sig := 9
abbrev cc3_sem0_0 : DmaSem sig := 15
abbrev cc3_sem1_0 : DmaSem sig := 16
abbrev cc3_sem2_0 : DmaSem sig := 17
abbrev cc3_sem3_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_1 : BitVec 32 := 0#32
  let c0_i32_2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v5 : BitVec 32 := Scalar.muli v1 c8192_i32
  let c0_i32_0 : BitVec 32 := 0#32
  let v6 : BitVec 32 := Scalar.addi v5 c0_i32_0
  ![0, 0, v6.toNat]
def k0_off2 (i : grid0.Coords) : Fin 2 → Nat :=
  let c0_i32_5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v5 : BitVec 32 := Scalar.muli v1 c8192_i32
  let c0_i32_0 : BitVec 32 := 0#32
  let v6 : BitVec 32 := Scalar.addi v5 c0_i32_0
  ![0, v6.toNat]
@[reducible] def k0_t1_loop : Scf.Loop 32 :=
  let c0_i32_14 : BitVec 32 := 0#32
  let c1024_i32 : BitVec 32 := 1024#32
  let v15 : BitVec 32 := Scalar.addi c0_i32_14 c1024_i32
  let c1_i32_15 : BitVec 32 := 1#32
  ⟨c0_i32_14, v15, c1_i32_15⟩
def k0_off3 (k0_t1 : Fin k0_t1_loop.trips) : Fin 1 → Nat :=
  let c0_i32_14 : BitVec 32 := 0#32
  let c1_i32_15 : BitVec 32 := 1#32
  let arg12 : BitVec 32 := Scf.iv c0_i32_14 c1_i32_15 k0_t1
  let c16_i32_38 : BitVec 32 := 16#32
  let v45 : BitVec 32 := Scalar.muli arg12 c16_i32_38
  let v46 : Index := Scalar.indexCast v45
  ![v46.toNat]

def k0_chk1 (v3 : IVec S16 32) (v4 : IVec S16 32) (v37 : IVec S16 32) (v39 : IVec S16 32) : Prop :=
  (∀ a x, ((![v39, v3, v37] : Fin 3 → IVec S16 32) a x).toNat < S4x2x4096.size a) ∧
  (∀ a x, ((![v39, v4, v37] : Fin 3 → IVec S16 32) a x).toNat < S4x2x4096.size a) ∧
  (∀ a x, ((![v39, v37] : Fin 2 → IVec S16 32) a x).toNat < S4x4096.size a)
theorem k0_idx1_inb : ∀ (v3 : IVec S16 32) (v4 : IVec S16 32) (v37 : IVec S16 32) (v39 : IVec S16 32) (k0_hw1 : k0_chk1 v3 v4 v37 v39), ∀ a x, ((![v39, v3, v37] : Fin 3 → IVec S16 32) a x).toNat < S4x2x4096.size a := fun v3 v4 v37 v39 k0_hw1 => k0_hw1.1
theorem k0_idx2_inb : ∀ (v3 : IVec S16 32) (v4 : IVec S16 32) (v37 : IVec S16 32) (v39 : IVec S16 32) (k0_hw1 : k0_chk1 v3 v4 v37 v39), ∀ a x, ((![v39, v4, v37] : Fin 3 → IVec S16 32) a x).toNat < S4x2x4096.size a := fun v3 v4 v37 v39 k0_hw1 => k0_hw1.2.1
theorem k0_idx3_inb : ∀ (v3 : IVec S16 32) (v4 : IVec S16 32) (v37 : IVec S16 32) (v39 : IVec S16 32) (k0_hw1 : k0_chk1 v3 v4 v37 v39), ∀ a x, ((![v39, v37] : Fin 2 → IVec S16 32) a x).toNat < S4x4096.size a := fun v3 v4 v37 v39 k0_hw1 => k0_hw1.2.2
def k0_off4 (i : grid0.Coords) (c0_i32_17 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v17 : BitVec 32 := Scalar.muli v1 c32768_i32
  let v18 : BitVec 32 := Scalar.addi v17 c0_i32_17
  ![v18.toNat]
def k0_off5 (i : grid0.Coords) : Fin 3 → Nat :=
  let c0_i32_19 : BitVec 32 := 0#32
  let c0_i32_20 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_18 : BitVec 32 := 8192#32
  let v19 : BitVec 32 := Scalar.muli v1 c8192_i32_18
  let c4096_i32 : BitVec 32 := 4096#32
  let v20 : BitVec 32 := Scalar.addi v19 c4096_i32
  ![0, 0, v20.toNat]
def k0_off6 (i : grid0.Coords) : Fin 2 → Nat :=
  let c0_i32_23 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_18 : BitVec 32 := 8192#32
  let v19 : BitVec 32 := Scalar.muli v1 c8192_i32_18
  let c4096_i32 : BitVec 32 := 4096#32
  let v20 : BitVec 32 := Scalar.addi v19 c4096_i32
  ![0, v20.toNat]
@[reducible] def k0_t2_loop : Scf.Loop 32 :=
  let c0_i32_32 : BitVec 32 := 0#32
  let c1024_i32_33 : BitVec 32 := 1024#32
  let v29 : BitVec 32 := Scalar.addi c0_i32_32 c1024_i32_33
  let c1_i32_34 : BitVec 32 := 1#32
  ⟨c0_i32_32, v29, c1_i32_34⟩
def k0_off7 (k0_t2 : Fin k0_t2_loop.trips) : Fin 1 → Nat :=
  let c0_i32_32 : BitVec 32 := 0#32
  let c1_i32_34 : BitVec 32 := 1#32
  let arg12 : BitVec 32 := Scf.iv c0_i32_32 c1_i32_34 k0_t2
  let c16_i32_38 : BitVec 32 := 16#32
  let v45 : BitVec 32 := Scalar.muli arg12 c16_i32_38
  let v46 : Index := Scalar.indexCast v45
  ![v46.toNat]

def k0_chk2 (v3 : IVec S16 32) (v4 : IVec S16 32) (v37 : IVec S16 32) (v39 : IVec S16 32) : Prop :=
  (∀ a x, ((![v39, v3, v37] : Fin 3 → IVec S16 32) a x).toNat < S4x2x4096.size a) ∧
  (∀ a x, ((![v39, v4, v37] : Fin 3 → IVec S16 32) a x).toNat < S4x2x4096.size a) ∧
  (∀ a x, ((![v39, v37] : Fin 2 → IVec S16 32) a x).toNat < S4x4096.size a)
theorem k0_idx4_inb : ∀ (v3 : IVec S16 32) (v4 : IVec S16 32) (v37 : IVec S16 32) (v39 : IVec S16 32) (k0_hw2 : k0_chk2 v3 v4 v37 v39), ∀ a x, ((![v39, v3, v37] : Fin 3 → IVec S16 32) a x).toNat < S4x2x4096.size a := fun v3 v4 v37 v39 k0_hw2 => k0_hw2.1
theorem k0_idx5_inb : ∀ (v3 : IVec S16 32) (v4 : IVec S16 32) (v37 : IVec S16 32) (v39 : IVec S16 32) (k0_hw2 : k0_chk2 v3 v4 v37 v39), ∀ a x, ((![v39, v4, v37] : Fin 3 → IVec S16 32) a x).toNat < S4x2x4096.size a := fun v3 v4 v37 v39 k0_hw2 => k0_hw2.2.1
theorem k0_idx6_inb : ∀ (v3 : IVec S16 32) (v4 : IVec S16 32) (v37 : IVec S16 32) (v39 : IVec S16 32) (k0_hw2 : k0_chk2 v3 v4 v37 v39), ∀ a x, ((![v39, v37] : Fin 2 → IVec S16 32) a x).toNat < S4x4096.size a := fun v3 v4 v37 v39 k0_hw2 => k0_hw2.2.2
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  ![v2.toNat]
def k2_cond1 (i : grid2.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v6 : BitVec 1 := Scalar.cmpi .slt v1 c31_i32
  let v7 : BitVec 32 := Scalar.extui v6
  let c0_i32 : BitVec 32 := 0#32
  let v8 : BitVec 1 := Scalar.cmpi .ne v7 c0_i32
  v8

def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v2 : BitVec 32 := Scalar.muli v1 c32768_i32
  let c32768_i32_11 : BitVec 32 := 32768#32
  let v21 : BitVec 32 := Scalar.addi v2 c32768_i32_11
  ![v21.toNat]
@[reducible] def k2_t1_loop : Scf.Loop 32 :=
  let c0_i32_4 : BitVec 32 := 0#32
  let c1024_i32 : BitVec 32 := 1024#32
  let v15 : BitVec 32 := Scalar.addi c0_i32_4 c1024_i32
  let c1_i32_5 : BitVec 32 := 1#32
  ⟨c0_i32_4, v15, c1_i32_5⟩
def k2_off3 (k2_t1 : Fin k2_t1_loop.trips) : Fin 1 → Nat :=
  let c0_i32_4 : BitVec 32 := 0#32
  let c1_i32_5 : BitVec 32 := 1#32
  let arg11 : BitVec 32 := Scf.iv c0_i32_4 c1_i32_5 k2_t1
  let c16_i32 : BitVec 32 := 16#32
  let v21 : BitVec 32 := Scalar.muli arg11 c16_i32
  let v22 : Index := Scalar.indexCast v21
  ![v22.toNat]
@[reducible] def k2_t2_loop : Scf.Loop 32 :=
  let c0_i32_8 : BitVec 32 := 0#32
  let c2048_i32 : BitVec 32 := 2048#32
  let v19 : BitVec 32 := Scalar.addi c0_i32_8 c2048_i32
  let c1_i32_9 : BitVec 32 := 1#32
  ⟨c0_i32_8, v19, c1_i32_9⟩
def k2_off4 (k2_t2 : Fin k2_t2_loop.trips) : Fin 1 → Nat :=
  let c0_i32_8 : BitVec 32 := 0#32
  let c1_i32_9 : BitVec 32 := 1#32
  let arg11 : BitVec 32 := Scf.iv c0_i32_8 c1_i32_9 k2_t2
  let c16_i32 : BitVec 32 := 16#32
  let v21 : BitVec 32 := Scalar.muli arg11 c16_i32
  let v22 : Index := Scalar.indexCast v21
  ![v22.toNat]

def k2_chk1 (v27 : IVec S16 32) : Prop :=
  (∀ a x, ((![v27] : Fin 1 → IVec S16 32) a x).toNat < S32784.size a)
theorem k2_idx1_inb : ∀ (v27 : IVec S16 32) (k2_hw1 : k2_chk1 v27), ∀ a x, ((![v27] : Fin 1 → IVec S16 32) a x).toNat < S32784.size a := fun v27 k2_hw1 => k2_hw1
def k2_off5 (k2_t2 : Fin k2_t2_loop.trips) : Fin 1 → Nat :=
  let c0_i32_8 : BitVec 32 := 0#32
  let c1_i32_9 : BitVec 32 := 1#32
  let arg11 : BitVec 32 := Scf.iv c0_i32_8 c1_i32_9 k2_t2
  let c16_i32_13 : BitVec 32 := 16#32
  let v30 : BitVec 32 := Scalar.muli arg11 c16_i32_13
  let v31 : Index := Scalar.indexCast v30
  ![v31.toNat]

def k2_chk2 (v23 : IVec S16 32) : Prop :=
  (∀ a x, ((![v23] : Fin 1 → IVec S16 32) a x).toNat < S16384.size a) ∧
  (∀ a x, ((![v23] : Fin 1 → IVec S16 32) a x).toNat < S16384.size a)
theorem k2_idx2_inb : ∀ (v23 : IVec S16 32) (k2_hw2 : k2_chk2 v23), ∀ a x, ((![v23] : Fin 1 → IVec S16 32) a x).toNat < S16384.size a := fun v23 k2_hw2 => k2_hw2.1
theorem k2_idx3_inb : ∀ (v23 : IVec S16 32) (k2_hw2 : k2_chk2 v23), ∀ a x, ((![v23] : Fin 1 → IVec S16 32) a x).toNat < S16384.size a := fun v23 k2_hw2 => k2_hw2.2
def k2_off6 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r2 : BitVec 32 := 0#32
  ![v1.toNat, 0]
abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x128x128 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== Ordered.lean ====
abbrev S262144x128 : Shape := ⟨2, ![262144, 128]⟩
abbrev S262144x4x2 : Shape := ⟨3, ![262144, 4, 2]⟩
abbrev S262144x4 : Shape := ⟨2, ![262144, 4]⟩
abbrev S262144x4x1 : Shape := ⟨3, ![262144, 4, 1]⟩
abbrev S_ : Shape := ⟨0, ![]⟩
abbrev S1048576 : Shape := ⟨1, ![1048576]⟩
abbrev S33554432 : Shape := ⟨1, ![33554432]⟩
abbrev S1048576x1 : Shape := ⟨2, ![1048576, 1]⟩

abbrev nBuf : Space → Nat
  | .hbm => 26
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x4x2, .i32⟩
  | .hbm, ⟨2, _⟩ => ⟨S262144x4, .f32⟩
  | .hbm, ⟨3, _⟩ => ⟨S262144x4x1, .i32⟩
  | .hbm, ⟨4, _⟩ => ⟨S262144x4, .i32⟩
  | .hbm, ⟨5, _⟩ => ⟨S_, .i32⟩
  | .hbm, ⟨6, _⟩ => ⟨S262144x4, .i32⟩
  | .hbm, ⟨7, _⟩ => ⟨S262144x4, .i32⟩
  | .hbm, ⟨8, _⟩ => ⟨S262144x4x1, .i32⟩
  | .hbm, ⟨9, _⟩ => ⟨S262144x4, .i32⟩
  | .hbm, ⟨10, _⟩ => ⟨S262144x4, .i32⟩
  | .hbm, ⟨11, _⟩ => ⟨S1048576, .i32⟩
  | .hbm, ⟨12, _⟩ => ⟨S1048576, .f32⟩
  | .hbm, ⟨13, _⟩ => ⟨S1048576, .i32⟩
  | .hbm, ⟨14, _⟩ => ⟨S1048576, .f32⟩
  | .hbm, ⟨15, _⟩ => ⟨S33554432, .f32⟩
  | .hbm, ⟨16, _⟩ => ⟨S_, .i32⟩
  | .hbm, ⟨17, _⟩ => ⟨S1048576, .i32⟩
  | .hbm, ⟨18, _⟩ => ⟨S1048576, .i1⟩
  | .hbm, ⟨19, _⟩ => ⟨S_, .i32⟩
  | .hbm, ⟨20, _⟩ => ⟨S1048576, .i32⟩
  | .hbm, ⟨21, _⟩ => ⟨S1048576, .i32⟩
  | .hbm, ⟨22, _⟩ => ⟨S1048576, .i32⟩
  | .hbm, ⟨23, _⟩ => ⟨S1048576x1, .i32⟩
  | .hbm, ⟨24, _⟩ => ⟨S33554432, .f32⟩
  | .hbm, ⟨25, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Reference.lean ====
abbrev S262144x128 : Shape := ⟨2, ![262144, 128]⟩
abbrev S262144x4x2 : Shape := ⟨3, ![262144, 4, 2]⟩
abbrev S262144x4 : Shape := ⟨2, ![262144, 4]⟩
abbrev S262144x4x1 : Shape := ⟨3, ![262144, 4, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x4x2, .i32⟩
  | .hbm, ⟨2, _⟩ => ⟨S262144x4, .f32⟩
  | .hbm, ⟨3, _⟩ => ⟨S262144x4x1, .i32⟩
  | .hbm, ⟨4, _⟩ => ⟨S262144x4, .i32⟩
  | .hbm, ⟨5, _⟩ => ⟨S262144x4x1, .i32⟩
  | .hbm, ⟨6, _⟩ => ⟨S262144x4, .i32⟩
  | .hbm, ⟨7, _⟩ => ⟨S_, .i32⟩
  | .hbm, ⟨8, _⟩ => ⟨S262144x4, .i32⟩
  | .hbm, ⟨9, _⟩ => ⟨S262144x4, .i1⟩
  | .hbm, ⟨10, _⟩ => ⟨S_, .i32⟩
  | .hbm, ⟨11, _⟩ => ⟨S262144x4, .i32⟩
  | .hbm, ⟨12, _⟩ => ⟨S262144x4, .i32⟩
  | .hbm, ⟨13, _⟩ => ⟨S262144x4, .i32⟩
  | .hbm, ⟨14, _⟩ => ⟨S_, .i32⟩
  | .hbm, ⟨15, _⟩ => ⟨S262144x4, .i32⟩
  | .hbm, ⟨16, _⟩ => ⟨S262144x4, .i1⟩
  | .hbm, ⟨17, _⟩ => ⟨S_, .i32⟩
  | .hbm, ⟨18, _⟩ => ⟨S262144x4, .i32⟩
  | .hbm, ⟨19, _⟩ => ⟨S262144x4, .i32⟩
  | .hbm, ⟨20, _⟩ => ⟨S262144x4, .i32⟩
  | .hbm, ⟨21, _⟩ => ⟨S262144x4x1, .i32⟩
  | .hbm, ⟨22, _⟩ => ⟨S262144x4x1, .i32⟩
  | .hbm, ⟨23, _⟩ => ⟨S262144x4x2, .i32⟩
  | .hbm, ⟨24, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Setup.lean ====
/-
  The launch set-up of the kernel: the program as the SparseCore launch theorem sees it, the algebra of the proof's
  resources, the arrays as device locations, what a vector subcore reads and writes, and what the two SparseCore calls
  carry to the vector subcores and back.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nSub_one : (K (F := F)).nSub 1 = 16 := rfl
theorem nCore_zero : (K (F := F)).nCore 0 = 2 := rfl
theorem nCore_one : (K (F := F)).nCore 1 = 2 := rfl

/-- The layout facts the handshakes need. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := (UH × UP) × Counters

local notation "𝕄" => MT nD τ sig (HIx 2) (Elt F) ℕ UU ℕ

/-- The handshakes' rounds. -/
def EH : Emb UH (MT nD τ sig (HIx 2) (Elt F) ℕ UU ℕ) :=
  ((Emb.inl : Emb UH (UH × UP)).trans (Emb.inl : Emb (UH × UP) UU)).trans
    (uEmb (nD := nD) (sig := sig) (Ix := HIx 2) (Val := Elt F) (Name := ℕ) (U := UU) (Lvl := ℕ)).toEmb
/-- The pipelines' rounds. -/
def EP : Emb UP (MT nD τ sig (HIx 2) (Elt F) ℕ UU ℕ) :=
  ((Emb.inr : Emb UP (UH × UP)).trans (Emb.inl : Emb (UH × UP) UU)).trans
    (uEmb (nD := nD) (sig := sig) (Ix := HIx 2) (Val := Elt F) (Name := ℕ) (U := UU) (Lvl := ℕ)).toEmb

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## Indices by their coordinates -/

/-- The index of a shape with given coordinates, each reduced into range. -/
def ofN (s : Shape) (hs : ∀ a, 0 < s.size a) (v : Fin s.rank → ℕ) : s.Idx := fun a => ⟨v a % s.size a, Nat.mod_lt _ (hs a)⟩

theorem ofN_val (s : Shape) (hs : ∀ a, 0 < s.size a) (v : Fin s.rank → ℕ) (a : Fin s.rank) (h : v a < s.size a) :
    (ofN s hs v a).val = v a := Nat.mod_eq_of_lt h

theorem eq_ofN (s : Shape) (hs : ∀ a, 0 < s.size a) (v : Fin s.rank → ℕ) (x : s.Idx) (h : ∀ a, (x a).val = v a) :
    x = ofN s hs v := by
  funext a; apply Fin.ext
  rw [ofN_val _ _ _ _ (by rw [← h a]; exact (x a).isLt), h a]

theorem pos_S4x2x262144 : ∀ a, 0 < S4x2x262144.size a := by decide
theorem pos_S4x262144 : ∀ a, 0 < S4x262144.size a := by decide
theorem pos_S1048576 : ∀ a, 0 < S1048576.size a := by decide
theorem pos_S16384 : ∀ a, 0 < S16384.size a := by decide
theorem pos_S32x16384 : ∀ a, 0 < S32x16384.size a := by decide

/-! ## The arrays -/

abbrev siLoc (d : Dev nD) : Loc nD τ sig := (SparseCore.T d).loc main_v0
abbrev upLoc (d : Dev nD) : Loc nD τ sig := (SparseCore.T d).loc main_v1
abbrev kyLoc (d : Dev nD) : Loc nD τ sig := (SparseCore.T d).loc main_v2_0
abbrev ulLoc (d : Dev nD) : Loc nD τ sig := (SparseCore.T d).loc main_v2_1
abbrev skLoc (d : Dev nD) : Loc nD τ sig := (SparseCore.T d).loc main_v4_0
abbrev svLoc (d : Dev nD) : Loc nD τ sig := (SparseCore.T d).loc main_v4_1
abbrev mkLoc (d : Dev nD) : Loc nD τ sig := (SparseCore.T d).loc main_v5_0
abbrev vlLoc (d : Dev nD) : Loc nD τ sig := (SparseCore.T d).loc main_v5_1

/-- The prelude's memrefs, as its body is passed them. -/
abbrev siV : Memref sig .scVector .hbm S4x2x262144 .i32 := Memref.whole main_v0_scv
abbrev upV : Memref sig .scVector .hbm S4x262144 .f32 := Memref.whole main_v1_scv
abbrev kyV : Memref sig .scVector .hbm S1048576 .i32 := Memref.whole main_v2_0_scv
abbrev ulV : Memref sig .scVector .hbm S1048576 .f32 := Memref.whole main_v2_1_scv
abbrev p6V : Memref sig .scVector .vmem S4x2x4096 .i32 := Memref.whole cc0_scratch0
abbrev p7V : Memref sig .scVector .vmem S4x4096 .f32 := Memref.whole cc0_scratch1
abbrev p8V : Memref sig .scVector .vmem S16384 .i32 := Memref.whole cc0_scratch2
abbrev p9V : Memref sig .scVector .vmem S16384 .f32 := Memref.whole cc0_scratch3

/-- The scatter's memrefs, as its body is passed them. -/
abbrev skV : Memref sig .scVector .hbm S1048576 .i32 := Memref.whole main_v4_0_scv
abbrev svV : Memref sig .scVector .hbm S1048576 .f32 := Memref.whole main_v4_1_scv
abbrev mkV : Memref sig .scVector .hbm S32x16384 .i32 := Memref.whole main_v5_0_scv
abbrev vlV : Memref sig .scVector .hbm S32x16384 .f32 := Memref.whole main_v5_1_scv
abbrev q6V : Memref sig .scVector .vmem S32784 .i32 := Memref.whole cc2_scratch0
abbrev q7V : Memref sig .scVector .vmem S32768 .f32 := Memref.whole cc2_scratch1
abbrev q8V : Memref sig .scVector .vmem S16384 .i32 := Memref.whole cc2_scratch2
abbrev q9V : Memref sig .scVector .vmem S16384 .f32 := Memref.whole cc2_scratch3

/-- The grid point of core `c`, subcore `s`, in either call's grid. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread of grid point `L`'s vector subcore. -/
abbrev VT (d : Dev nD) (L : grid0.Coords) : Thread nD τ := V d (cV L) (jV L)

/-- The number of the vector subcore: twice its subcore number plus its core's. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The share of a read-only array a core is dealt, and a subcore's share of that. -/
abbrev shC (c : Fin 2) : PosShare TreeShare := leaf 1 fullShare c
abbrev shT (L : grid0.Coords) : PosShare TreeShare := leaf 4 (shC (L 0)) (L 1)

/-- The run of keys (and of linearised updates) half `r` of a subcore's work writes. -/
abbrev kyBlk (L : grid0.Coords) (r : Fin 2) : Memref sig .scVector .hbm S16384 .i32 :=
  kyV.slice (Rect.unit (s := S1048576) (k0_off4 L (BitVec.ofNat 32 (16384 * r.val))) S16384.size (k0_off4_inb L r)) (fun _ => rfl)
abbrev ulBlk (L : grid0.Coords) (r : Fin 2) : Memref sig .scVector .hbm S16384 .f32 :=
  ulV.slice (Rect.unit (s := S1048576) (k0_off4 L (BitVec.ofNat 32 (16384 * r.val))) S16384.size (k0_off4_inb L r)) (fun _ => rfl)
/-- The row of the mark plane (and of the value plane) a subcore writes. -/
abbrev mkRow (L : grid0.Coords) : Memref sig .scVector .hbm S16384 .i32 :=
  (mkV.slice (Rect.unit (s := S32x16384) (k2_off6 L) S1x16384.size (k2_off6_inb L)) (fun _ => rfl)).squeeze S16384 squeezes_S1x16384_S16384
abbrev vlRow (L : grid0.Coords) : Memref sig .scVector .hbm S16384 .f32 :=
  (vlV.slice (Rect.unit (s := S32x16384) (k2_off6 L) S1x16384.size (k2_off6_inb L)) (fun _ => rfl)).squeeze S16384 squeezes_S1x16384_S16384

/-! ## What the calls compute -/

/-- The cell number an update goes to: update `p` is component `p % 4` of row `p / 4`, its two indices `i0`, `i1` giving
    `128 * i0 + i1`. -/
def keysOf (si : S4x2x262144.Idx → BitVec 32) : S1048576.Idx → BitVec 32 := fun p =>
  si (ofN _ pos_S4x2x262144 ![(p 0).val % 4, 0, (p 0).val / 4]) * 128#32 + si (ofN _ pos_S4x2x262144 ![(p 0).val % 4, 1, (p 0).val / 4])

/-- The updates in the same order. -/
def linOf {α : Type} (up : S4x262144.Idx → α) : S1048576.Idx → α := fun p =>
  up (ofN _ pos_S4x262144 ![(p 0).val % 4, (p 0).val / 4])

/-- The sorted key at position `p`. -/
def keyAt (sk : S1048576.Idx → BitVec 32) (p : ℕ) : BitVec 32 := sk (ofN _ pos_S1048576 ![p])
/-- The key at the position after `p`; past the last one, a number no key equals. -/
def nextKeyAt (sk : S1048576.Idx → BitVec 32) (p : ℕ) : BitVec 32 := if p + 1 < 1048576 then keyAt sk (p + 1) else -2#32

/-- The sixteen keys subcore `w` loads at trip `t`. -/
def curV (sk : S1048576.Idx → BitVec 32) (w t : ℕ) : IVec S16 32 := fun l => keyAt sk (32768 * w + 16 * t + (l 0).val)
/-- The sixteen keys one position on. -/
def nxtV (sk : S1048576.Idx → BitVec 32) (w t : ℕ) : IVec S16 32 := fun l => nextKeyAt sk (32768 * w + 16 * t + (l 0).val)
/-- The sixteen updates there. -/
def valV {α : Type} (sv : S1048576.Idx → α) (w t : ℕ) : S16.Idx → α := fun l => sv (ofN _ pos_S1048576 ![32768 * w + 16 * t + (l 0).val])

/-- Every sorted key names a cell of the first 128 rows. -/
def KeysOk (sk : S1048576.Idx → BitVec 32) : Prop := ∀ p, (sk p).toNat < 16384

theorem curV_inb {sk : S1048576.Idx → BitVec 32} (h : KeysOk sk) (w t : ℕ) (a : Fin 1) (x : S16.Idx) :
    ((![curV sk w t] : Fin 1 → IVec S16 32) a x).toNat < S16384.size a := by
  obtain rfl : a = 0 := Subsingleton.elim _ _
  exact h _

end Cert.Proof.Sc

end
-- ==== Proof.Region.lean ====
/-
  The two TensorCore kernels of @main as regions of the TensorCore's thread: what a region is entered from and left at,
  beside the SparseCore calls' handshakes, and the step of @main that runs it.
-/
module

public import proofs.«01_k».proof.Proof.Setup
public import Idealize.ShloMosaic.Lib.Pipeline.FrameTail
public import Idealize.ShloMosaic.Lib.Pipeline.ValueKit.Geometry

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

/-- The tables of the kernels: none has one. -/
abbrev adm : (q : Fin 2) → (pcfgs (F := F) q).Adm := fun q => (cfgs q).toPCfg_adm

/-- The waits a TensorCore has recorded when every one of them is at a level at most `b`. -/
def bndSet (d : Dev nD) (b : ℕ) : Set (SemLoc sig × HIx 2) := {x | (K (F := F)).lev (T d, x.1) x.2 ≤ b}

/-- What a TensorCore owes before its call `n`, the waits it has recorded at levels at most `b`. -/
abbrev owesB (d : Dev nD) (n b : ℕ) : sProp 𝕄 :=
  iprop(∃ W, ⌜(K (F := F)).WBelow (T d) W b⌝ ∗ owes (T d) ((K (F := F)).Otc d n) W)

theorem Otc_none (d : Dev nD) (n : ℕ) (g : GSem nD τ sig) : (K (F := F)).Otc d n g (none : HIx 2) = 0 := by
  by_contra h
  have := (K (F := F)).lev_of_Otc_pos (Nat.pos_of_ne_zero h)
  rw [SparseCore.Cfg.lev_none] at this; omega

section Region

variable [FloatOps F]
variable (p : Fin 2) (kit : Pipeline.LaunchFacts (nD := nD) (τ := τ) cfgs p) (n b : ℕ)
  (dats : (q : Fin 2) → (c : Dev nD) → Pipeline.Dat τ (Elt F) (HIx 2) ℕ UU ℕ (cfgs q) c)
  (W : Dev nD → Valuation τ sig (Elt F))

/-- The scoped buffers a region's windows do not stage. -/
abbrev restA (c : Dev nD) : sProp 𝕄 := Pipeline.scopedRest (Ix := HIx 2) (Name := ℕ) (U := UU) (Lvl := ℕ) (Val := Elt F) (cfgs p).spec c

include kit in
theorem owes_in (c : Dev nD) (t : Fin ((cfgs p).N + 1)) (howed : (dats p c).owed t = (K (F := F)).Otc c n)
    (hrec : (dats p c).recorded t = bndSet (F := F) c b) :
    owesB (F := F) c n b ⊢ (dats p c).owesAt (none : HIx 2) t := by
  unfold Pipeline.Dat.owesAt Pipeline.owesWithin
  rw [howed]
  iintro ⟨%w, %hw, HO⟩; iexists w; isplitr
  · ipureintro; intro x hx; left; rw [hrec]; exact hw x hx
  iexact HO

include kit in
theorem owes_out (c : Dev nD) (t : Fin ((cfgs p).N + 1)) (howed : (dats p c).owed t = (K (F := F)).Otc c n)
    (hrec : (dats p c).recorded t = bndSet (F := F) c b) :
    (dats p c).owesAt (none : HIx 2) t ⊢ owesB (F := F) c n b := by
  unfold Pipeline.Dat.owesAt Pipeline.owesWithin
  rw [howed]
  iintro ⟨%w, %hw, HO⟩; iexists w; isplitr
  · ipureintro; intro x hx
    rcases hw hx with h | ⟨w', s, h⟩
    · rw [hrec] at h; exact h
    · rw [h]; exact Nat.zero_le _
  iexact HO

set_option backward.isDefEq.respectTransparency.types false in
/-- A kernel's region, from every unscoped buffer at `W` and what the TensorCore owes, to the windows' arrays at what the
    kernel's points leave in them, the other buffers as they were. -/
def region (hbody : ∀ c, Pipeline.BodyObligationLoose (dats p c) (defs₀ (F := F)) 𝒱₀ (none : HIx 2) Set.univ)
    (hshare : ∀ c w, (dats p c).share w = fullShare)
    (howed : ∀ c t, (dats p c).owed t = (K (F := F)).Otc c n)
    (hrec : ∀ c t, (dats p c).recorded t = bndSet (F := F) c b)
    (hA : ∀ c w, (dats p c).A w = W c (Proc.devRef .tc (Pipeline.arrRef (cfgs p).spec w)))
    (hΦ : ∀ c t, (dats p c).Φ t = restA (F := F) p c) :
    Pipeline.RegionSeg (pcfgs (F := F)) adm dats (none : HIx 2) (defs₀ (F := F)) 𝒱₀ (K (F := F)).L (K (F := F)).lev p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody := hbody
  hwaits c := Pipeline.cellsWaits_intro _ dats (none : HIx 2) p c fun w s t => by
    rw [howed]; exact (K (F := F)).mayWait_none _ (Otc_none c n)
  pre c := iprop(StableHlo.held (c.tc : Thread nD τ) (Pipeline.ucRefs τ sig) (W c) ∗ owesB (F := F) c n b)
  post c := iprop(StableHlo.held (c.tc : Thread nD τ) (Pipeline.ucRefs τ sig) (Pipeline.afterRegion (dats p c) (W c)) ∗ owesB (F := F) c n b)
  X _ := BI.emp
  Y _ := BI.emp
  Z c := Pipeline.unscopedRest (Ix := HIx 2) (Name := ℕ) (U := UU) (Lvl := ℕ) (cfgs p).spec c (fun r => W c (Proc.devRef .tc r))
  hentry c := by
    rw [Pipeline.ownSems0_none,
      show StableHlo.held (c.tc : Thread nD τ) (Pipeline.ucRefs τ sig) (W c) = unscopedBufs c (fun r => W c (Proc.devRef .tc r))
        from (Pipeline.unscopedBufs_held (Ix := HIx 2) (Name := ℕ) (U := UU) (Lvl := ℕ) c (W c)).symm]
    have hsplit := Pipeline.arrays_of_unscopedBufs (p := p) (pcfgs (F := F)) adm dats (kit.toP (Val := Elt F)).win (kit.toP (Val := Elt F)).arr_whole c (hshare c)
      (fun r => W c (Proc.devRef .tc r)) (fun w => hA c w)
    have ho := owes_in (F := F) p kit n b dats c 0 (howed c 0) (hrec c 0)
    iintro ⟨⟨Hub, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]; · iapply ho; iexact HO
    isplitr; · iempintro
    iexact Hrest
  hin c := by
    rw [show (dats p c).Φ 0 = restA (F := F) p c from hΦ c 0]
    iintro ⟨-, -, Hr⟩; iexact Hr
  hout c := by
    rw [Pipeline.ownSems0_none, show (dats p c).Φ (Fin.last _) = restA (F := F) p c from hΦ c _]
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ)
      (kit.toP (Val := Elt F)).win (kit.toP (Val := Elt F)).arr_whole c dats (hshare c)
      (fun r => W c (Proc.devRef .tc r)) (fun r => Pipeline.afterRegion (dats p c) (W c) (Proc.devRef .tc r)) ((dats p c).arrAt · (cfgs p).N)
      (fun w => (Pipeline.afterRegion_arr (dats p c) (W c) kit.win.arr_inj w).symm)
      (fun r hr => Pipeline.afterRegion_of_not_arr (dats p c) (W c)
        fun w h => hr (h ▸ Finset.mem_image.mpr ⟨w, Finset.mem_univ _, rfl⟩))
    have ho := owes_out (F := F) p kit n b dats c (Fin.last _) (howed c _) (hrec c _)
    rw [show StableHlo.held (c.tc : Thread nD τ) (Pipeline.ucRefs τ sig) (Pipeline.afterRegion (dats p c) (W c))
          = unscopedBufs c (fun r => Pipeline.afterRegion (dats p c) (W c) (Proc.devRef .tc r))
        from (Pipeline.unscopedBufs_held (Ix := HIx 2) (Name := ℕ) (U := UU) (Lvl := ℕ) c (Pipeline.afterRegion (dats p c) (W c))).symm]
    iintro ⟨Ha, HO, -, Hrest⟩
    imodintro
    isplitl [Ha Hrest]
    · iapply hjoin; isplitl [Ha] <;> iassumption
    iapply ho; iexact HO

variable [∀ e, Nonempty (Elt F e)]

include kit in
/-- The step of @main that runs a kernel. -/
theorem region_step (hbody : ∀ c, Pipeline.BodyObligationLoose (dats p c) (defs₀ (F := F)) 𝒱₀ (none : HIx 2) Set.univ)
    (hshare : ∀ c w, (dats p c).share w = fullShare)
    (howed : ∀ c t, (dats p c).owed t = (K (F := F)).Otc c n)
    (hrec : ∀ c t, (dats p c).recorded t = bndSet (F := F) c b)
    (hA : ∀ c w, (dats p c).A w = W c (Proc.devRef .tc (Pipeline.arrRef (cfgs p).spec w)))
    (hΦ : ∀ c t, (dats p c).Φ t = restA (F := F) p c) (d : Dev nD) (Q : PUnit → sProp 𝕄) :
    iprop(boundary (T d) ∗ (StableHlo.held (T d) (Pipeline.ucRefs τ sig) (W d) ∗ owesB (F := F) d n b)
        ∗ levAts (K (F := F)).L (K (F := F)).lev
        ∗ Pipeline.cellsGhost cfgs EP p d ∗ Pipeline.toksInit cfgs EP p d
        ∗ (iprop(boundary (T d) ∗ StableHlo.held (T d) (Pipeline.ucRefs τ sig) (Pipeline.afterRegion (dats p d) (W d)) ∗ owesB (F := F) d n b) -∗ Q ⟨⟩))
      ⊢ wp frame (wpE ((K (F := F)).defs (D (F := F))) 𝒱 (T d) none) Set.univ
          (Prog.lift (.customCall (SparseCore.inner (Pipeline.entry p)) ())) Q := by
  have h := Pipeline.RegionSeg.wp (pcfgs (F := F)) adm dats (none : HIx 2) cellOf_inj EP (defs₀ (F := F)) 𝒱₀ (K (F := F)).L (K (F := F)).lev
    (region p kit n b dats W hbody hshare howed hrec hA hΦ) d none (fun u hu => nomatch hu) (fun x => .ret x) Q
  rw [show (region p kit n b dats W hbody hshare howed hrec hA hΦ).pre d
        = iprop(StableHlo.held (T d) (Pipeline.ucRefs τ sig) (W d) ∗ owesB (F := F) d n b) from rfl,
    show (region p kit n b dats W hbody hshare howed hrec hA hΦ).post d
        = iprop(StableHlo.held (T d) (Pipeline.ucRefs τ sig) (Pipeline.afterRegion (dats p d) (W d)) ∗ owesB (F := F) d n b) from rfl] at h
  refine BIBase.Entails.trans ?_ ((K (F := F)).wp_liftProg (D (F := F)) 𝒱 (T d) Set.univ none (.op (.customCall (Pipeline.entry p) ()) fun x => .ret x) Q)
  refine BIBase.Entails.trans ?_ h
  iintro ⟨Hb, Hpre, Hl, Hg, Ht, Hk⟩
  isplitl [Hk]
  · iintro Hp
    rw [wp_ret]
    imodintro
    iapply Hk; iexact Hp
  isplitl [Hb]; · iexact Hb
  isplitl [Hpre]; · iexact Hpre
  isplitl [Hl]; · iexact Hl
  isplitl [Hg] <;> iassumption

end Region

end Cert.Proof.Sc

end
-- ==== Proof.Copy.lean ====
/-
  The copying kernel: one point's body, and its region's proof data.
-/
module

public import proofs.«01_k».proof.Proof.Region
public import Idealize.ShloMosaic.Lib.VecWindow
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

/-- What is read through a view after a store of its whole. -/
theorem read_store_full {Val : EltTy → Type} {κ : Kind} {sp : Space} {s : Shape} {e : EltTy} (v : View sig κ sp s e) (f : v.ty.Contents Val)
    {off : Fin s.rank → ℕ} (inb : ∀ a, off a + s.size a ≤ s.size a) (w : s.Idx → Val e) :
    v.read Val (v.writes Val f [⟨Rect.unit off s.size inb, w⟩]) = w := by
  funext x
  have e := View.read_writes_cons_emb (Val := Val) v f (Rect.unit off s.size inb) w [] x
  have hx : (Rect.unit (s := s) off s.size inb).emb x = x := funext fun a => Fin.ext (by
    show off a + 1 * (x a).val = (x a).val
    have := inb a; omega)
  rw [hx] at e; exact e

section Copy

variable [FloatOps F]

/-- The copying kernel's body on two staging buffers: the second is left reading what the first reads. -/
theorem copy_run (c : Dev nD) (i : grid1.Coords) (M0 : Memref sig .tc .vmem S16384x128 .f32) (h0 : M0.IsWhole)
    (M1 : Memref sig .tc .vmem S16384x128 .f32) (h1 : M1.IsWhole)
    (X Y : S16384x128.Idx → Elt F .f32) (Q : PUnit → sProp 𝕄) :
    iprop(owns (T c) M0 fullShare X ∗ owns (T c) M1 fullShare Y
        ∗ (iprop(owns (T c) M0 fullShare X ∗ owns (T c) M1 fullShare X) -∗ Q ⟨⟩))
      ⊢ wp frame (wpE (defs₀ (F := F)) 𝒱₀ (T c) none) Set.univ (cc1__tc_copy_body (F := F) i M0 h0 M1 h1) Q := by
  generalize he : cc1__tc_copy_body (F := F) i M0 h0 M1 h1 = e
  rw [cc1__tc_copy_body_eq_skeleton] at he
  unfold cc1__tc_copy_body_skel at he
  subst he
  unfold owns
  iintro ⟨⟨%f0, %e0, H0⟩, ⟨%f1, %e1, H1⟩, Hk⟩
  sl_exec
  sl_step
  iapply Hk
  isplitl [H0]
  · iexists f0; isplitr
    · ipureintro; exact e0
    iexact H0
  iexists _; isplitr
  rotate_left
  · iexact H1
  ipureintro
  rw [read_store_full]
  rw [View.readAt_full]; exact e0

variable (n b : ℕ) (W : Dev nD → Valuation τ sig (Elt F))

/-- The operand's block at a point. -/
abbrev opBlk (c : Dev nD) (t : Fin cfg1.N) : S16384x128.Idx → Elt F .f32 :=
  (win1_0.blk t).view.read (Elt F) (W c (Proc.devRef .tc main_arg0))

/-- The copying kernel's proof data: each point leaves the operand's block in both staging buffers. -/
def dat1 (c : Dev nD) : Pipeline.Dat τ (Elt F) (HIx 2) ℕ UU ℕ cfg1 c where
  A w := W c (Proc.devRef .tc (Pipeline.arrRef spec1 w))
  after w t := match w with
    | ⟨0, _⟩ => opBlk W c t
    | ⟨1, _⟩ => opBlk W c t
  Φ _ := restA (F := F) 0 c
  q _ := fullShare
  owed _ := (K (F := F)).Otc c n
  recorded _ := bndSet (F := F) c b

theorem before1 (c : Dev nD) (t : Fin cfg1.N) (x : (cfg1.win 0).block.Idx → Elt F (cfg1.win 0).elt) :
    (dat1 n b W c).before 0 t x = opBlk W c t := by
  unfold Pipeline.Dat.before; rw [if_pos (fetch1_0 t)]; rfl

theorem body1 (c : Dev nD) : Pipeline.BodyObligation (dat1 n b W c) (defs₀ (F := F)) 𝒱₀ (none : HIx 2) Set.univ := fun t => by
  rw [bigSep_W1, bigSep_W1]
  rw [show (dat1 n b W c).Φ t.castSucc = restA (F := F) 0 c from rfl, show (dat1 n b W c).Φ t.succ = restA (F := F) 0 c from rfl,
    show (dat1 n b W c).owesAt (none : HIx 2) t.succ = (dat1 n b W c).owesAt (none : HIx 2) t.castSucc from rfl]
  iintro ⟨HΦ, Howes, ⟨%d0, H0⟩, ⟨%d1, H1⟩⟩
  rw [before1]
  iapply (copy_run (F := F) c (grid1.coords t) (win1_0.stage (cfg1.slots t 0)) (hstage1_0 ((cfg1.slots t 0).cast nbuf1_0))
    (win1_1.stage (cfg1.slots t 1)) (hstage1_1 ((cfg1.slots t 1).cast nbuf1_1)) (opBlk W c t) _ _)
  isplitl [H0]; · iexact H0
  isplitl [H1]; · iexact H1
  iintro ⟨H0, H1⟩
  isplitl [HΦ]; · iexact HΦ
  isplitl [Howes]; · iexact Howes
  isplitl [H0]; · iexact H0
  iexact H1

/-- The copy's result is the operand. -/
theorem copied (c : Dev nD) : (dat1 n b W c).arrAt 1 cfg1.N = W c (Proc.devRef .tc main_arg0) := by
  refine (dat1 n b W c).arrAt_eq_of_covers 1 (W c (Proc.devRef .tc main_arg0)) (by decide +kernel) fun t hf y => ?_
  rfl

end Copy

end Cert.Proof.Sc

end
-- ==== Proof.Merge.lean ====
/-
  The merging kernel: its body, its region's proof data, and what its result holds.
-/
module

public import proofs.«01_k».proof.Proof.Copy
public import Idealize.ShloMosaic.Lib.Pipeline.ValueKit.Partial

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

theorem pos_S32x128x128 : ∀ a, 0 < S32x128x128.size a := by decide

/-- The entry of a stack of planes at plane `t`, row and column those of `x`. -/
def atPlane (t : ℕ) (x : S128x128.Idx) : S32x128x128.Idx := ofN S32x128x128 pos_S32x128x128 ![t, (x 0).val, (x 1).val]

/-- One layer of the merge: where plane `t` is marked its value, elsewhere what the layers below left. -/
def layer {α : Type} (mk : S32x128x128.Idx → BitVec 32) (vl : S32x128x128.Idx → α) (t : ℕ) (acc : S128x128.Idx → α) : S128x128.Idx → α :=
  fun x => if mk (atPlane t x) ≠ 0#32 then vl (atPlane t x) else acc x

/-- The patch `X` with the first `t` planes laid over it. -/
def merged {α : Type} (mk : S32x128x128.Idx → BitVec 32) (vl : S32x128x128.Idx → α) (X : S128x128.Idx → α) : ℕ → S128x128.Idx → α
  | 0 => X
  | t + 1 => layer mk vl t (merged mk vl X t)

/-- Plane `t` of a stack, as the body loads it. -/
def plane {α : Type} (g : S32x128x128.Idx → α) (t : ℕ) : S1x128x128.Idx → α :=
  fun y => g (ofN S32x128x128 pos_S32x128x128 ![t, (y 1).val, (y 2).val])

theorem readAt_plane {Val : EltTy → Type} {κ : Kind} {sp : Space} {e : EltTy} (v : View sig κ sp S32x128x128 e) (f : v.ty.Contents Val)
    (t : ℕ) (inb : ∀ a, ![t, 0, 0] a + (![1, 128, 128] : Fin 3 → ℕ) a ≤ S32x128x128.size a) :
    v.readAt Val (Rect.unit (s := S32x128x128) ![t, 0, 0] ![1, 128, 128] inb).toLoadRect f = plane (v.read Val f) t := by
  funext (y : S1x128x128.Idx)
  refine congrArg (v.read Val f) (eq_ofN _ _ _ _ fun a => ?_)
  have h0 : (y 0).val = 0 := by have : (y 0).val < 1 := (y 0).isLt; omega
  match a with
  | ⟨0, _⟩ => show t + 1 * (y 0).val = t; omega
  | ⟨1, _⟩ => show 0 + 1 * (y 1).val = (y 1).val; omega
  | ⟨2, _⟩ => show 0 + 1 * (y 2).val = (y 2).val; omega

theorem readAt_first {Val : EltTy → Type} {κ : Kind} {sp : Space} {e : EltTy} (v : View sig κ sp S128x128 e) (f : v.ty.Contents Val)
    (inb : ∀ a, ![0, 0] a + (![128, 128] : Fin 2 → ℕ) a ≤ S128x128.size a) :
    v.readAt Val (Rect.unit (s := S128x128) ![0, 0] ![128, 128] inb).toLoadRect f = v.read Val f := View.readAt_full (s := S128x128) v f _

theorem cast_plane {α : Type} (g : S32x128x128.Idx → α) (t : ℕ) (h : S1x128x128.ShapeCasts S128x128) (x : S128x128.Idx) :
    shapeCast S128x128 (plane g t) h x = g (atPlane t x) := by
  rw [shapeCast_dropUnit_apply ![128, 128]]
  rfl

theorem layer_eq {α : Type} (mk : S32x128x128.Idx → BitVec 32) (vl : S32x128x128.Idx → α) (t : ℕ) (acc : S128x128.Idx → α)
    (h h' : S1x128x128.ShapeCasts S128x128) :
    select (cmpi .ne (shapeCast S128x128 (plane mk t) h) (broadcast S128x128 0#32)) (shapeCast S128x128 (plane vl t) h') acc
      = layer mk vl t acc := by
  funext x
  show Scalar.select (Scalar.cmpi .ne (shapeCast S128x128 (plane mk t) h x) 0#32) (shapeCast S128x128 (plane vl t) h' x) (acc x) = _
  rw [cast_plane, cast_plane]
  unfold layer
  by_cases e : mk (atPlane t x) = 0#32
  · rw [if_neg (not_not.2 e), e]; rfl
  · rw [if_pos e]
    have : IntOp.cmpi .ne (mk (atPlane t x)) 0#32 = 1#1 := by
      rw [IntOp.cmpi, bne_iff_ne.2 e]; rfl
    show (if IntOp.cmpi .ne (mk (atPlane t x)) 0#32 = 1#1 then _ else _) = _
    rw [if_pos this]

section Merge

variable [FloatOps F]

set_option maxHeartbeats 4000000 in
set_option maxRecDepth 65536 in
/-- The merging kernel's body: the last buffer is left reading the first with the planes laid over it. -/
theorem merge_run (c : Dev nD) (i : grid3.Coords) (M0 : Memref sig .tc .vmem S128x128 .f32) (h0 : M0.IsWhole)
    (M1 : Memref sig .tc .vmem S32x128x128 .i32) (h1 : M1.IsWhole)
    (M2 : Memref sig .tc .vmem S32x128x128 .f32) (h2 : M2.IsWhole)
    (M3 : Memref sig .tc .vmem S128x128 .f32) (h3 : M3.IsWhole)
    (X Y : S128x128.Idx → Elt F .f32) (mk : S32x128x128.Idx → Elt F .i32) (vl : S32x128x128.Idx → Elt F .f32) (Q : PUnit → sProp 𝕄) :
    iprop(owns (T c) M0 fullShare X ∗ owns (T c) M1 fullShare mk ∗ owns (T c) M2 fullShare vl ∗ owns (T c) M3 fullShare Y
        ∗ (iprop(owns (T c) M0 fullShare X ∗ owns (T c) M1 fullShare mk ∗ owns (T c) M2 fullShare vl
            ∗ owns (T c) M3 fullShare (merged (α := Elt F .f32) mk vl X 32)) -∗ Q ⟨⟩))
      ⊢ wp frame (wpE (defs₀ (F := F)) 𝒱₀ (T c) none) Set.univ (cc3__merge_body (F := F) i M0 h0 M1 h1 M2 h2 M3 h3) Q := by
  generalize he : cc3__merge_body (F := F) i M0 h0 M1 h1 M2 h2 M3 h3 = e
  rw [cc3__merge_body_eq_skeleton] at he
  unfold cc3__merge_body_skel at he
  rw [k3_part1_eq_skeleton, k3_part2_eq_skeleton, k3_part3_eq_skeleton, k3_part4_eq_skeleton, k3_part5_eq_skeleton,
    k3_part6_eq_skeleton, k3_part7_eq_skeleton] at he
  unfold k3_part1_skel k3_part2_skel k3_part3_skel k3_part4_skel k3_part5_skel k3_part6_skel k3_part7_skel at he
  simp only [Prog.lift, Prog.bind_op, Prog.bind_ret, Prog.pure_eq_ret, Prog.bind_assoc] at he
  subst he
  unfold owns
  iintro ⟨⟨%f0, %e0, H0⟩, ⟨%f1, %e1, H1⟩, ⟨%f2, %e2, H2⟩, ⟨%f3, %e3, H3⟩, Hk⟩
  sl_exec
  sl_step
  iapply Hk
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  iexists _; isplitr
  rotate_left
  · iexact H3
  ipureintro
  rw [read_store_full]
  simp only [k3_pay1, k3_pay2, k3_pay3, k3_pay4, k3_pay5, k3_pay6, k3_pay7, k3_pay8, k3_pay9, k3_pay10, k3_pay11, k3_pay12,
    k3_pay13, k3_pay14, k3_pay15, readAt_plane, readAt_first, e0, e1, e2, layer_eq, shapeCast_self]
  rfl

variable (n b : ℕ) (W : Dev nD → Valuation τ sig (Elt F))

/-- What the merging kernel reads: the first block of the copy, the marks and the values. -/
abbrev firstBlk (c : Dev nD) : S128x128.Idx → Elt F .f32 :=
  (win3_0.blk t3_0).view.read (Elt F) (W c (Proc.devRef .tc main_v3))
abbrev marks (c : Dev nD) : S32x128x128.Idx → Elt F .i32 :=
  (win3_1.blk t3_0).view.read (Elt F) (W c (Proc.devRef .tc main_v6))
abbrev vals (c : Dev nD) : S32x128x128.Idx → Elt F .f32 :=
  (win3_2.blk t3_0).view.read (Elt F) (W c (Proc.devRef .tc main_v7))

/-- The merging kernel's proof data. -/
def dat3 (c : Dev nD) : Pipeline.Dat τ (Elt F) (HIx 2) ℕ UU ℕ cfg3 c where
  A w := W c (Proc.devRef .tc (Pipeline.arrRef spec3 w))
  after w t := match w with
    | ⟨0, _⟩ => firstBlk W c
    | ⟨1, _⟩ => marks W c
    | ⟨2, _⟩ => vals W c
    | ⟨3, _⟩ => merged (α := Elt F .f32) (marks W c) (vals W c) (firstBlk W c) 32
  Φ _ := restA (F := F) 1 c
  q _ := fullShare
  owed _ := (K (F := F)).Otc c n
  recorded _ := bndSet (F := F) c b

theorem before3_0 (c : Dev nD) (x : (cfg3.win 0).block.Idx → Elt F (cfg3.win 0).elt) :
    (dat3 n b W c).before 0 t3_0 x = firstBlk W c := by
  unfold Pipeline.Dat.before; rw [if_pos (fetch3_0 t3_0)]; rfl
theorem before3_1 (c : Dev nD) (x : (cfg3.win 1).block.Idx → Elt F (cfg3.win 1).elt) :
    (dat3 n b W c).before 1 t3_0 x = marks W c := by
  unfold Pipeline.Dat.before; rw [if_pos (fetch3_1 t3_0)]; rfl
theorem before3_2 (c : Dev nD) (x : (cfg3.win 2).block.Idx → Elt F (cfg3.win 2).elt) :
    (dat3 n b W c).before 2 t3_0 x = vals W c := by
  unfold Pipeline.Dat.before; rw [if_pos (fetch3_2 t3_0)]; rfl

theorem body3 (c : Dev nD) : Pipeline.BodyObligation (dat3 n b W c) (defs₀ (F := F)) 𝒱₀ (none : HIx 2) Set.univ := fun t => by
  obtain rfl : t = t3_0 := fin_N3 t
  rw [bigSep_W3, bigSep_W3]
  rw [show (dat3 n b W c).Φ t3_0.castSucc = restA (F := F) 1 c from rfl, show (dat3 n b W c).Φ t3_0.succ = restA (F := F) 1 c from rfl,
    show (dat3 n b W c).owesAt (none : HIx 2) t3_0.succ = (dat3 n b W c).owesAt (none : HIx 2) t3_0.castSucc from rfl]
  iintro ⟨HΦ, Howes, ⟨%d0, H0⟩, ⟨%d1, H1⟩, ⟨%d2, H2⟩, ⟨%d3, H3⟩⟩
  rw [before3_0, before3_1, before3_2]
  iapply (merge_run (F := F) c (grid3.coords t3_0) (win3_0.stage (cfg3.slots t3_0 0)) (hstage3_0 ((cfg3.slots t3_0 0).cast nbuf3_0))
    (win3_1.stage (cfg3.slots t3_0 1)) (hstage3_1 ((cfg3.slots t3_0 1).cast nbuf3_1))
    (win3_2.stage (cfg3.slots t3_0 2)) (hstage3_2 ((cfg3.slots t3_0 2).cast nbuf3_2))
    (win3_3.stage (cfg3.slots t3_0 3)) (hstage3_3 ((cfg3.slots t3_0 3).cast nbuf3_3))
    (firstBlk W c) _ (marks W c) (vals W c) _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem pos_S128x128 : ∀ a, 0 < S128x128.size a := by decide
theorem pos_S262144x128 : ∀ a, 0 < S262144x128.size a := by decide

/-- The marks and values are read whole, the copy's first block at its own entries. -/
theorem marks_eq (c : Dev nD) : marks W c = W c (Proc.devRef .tc main_v6) := by
  funext x
  refine congrArg (W c (Proc.devRef .tc main_v6)) (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem vals_eq (c : Dev nD) : vals W c = W c (Proc.devRef .tc main_v7) := by
  funext x
  refine congrArg (W c (Proc.devRef .tc main_v7)) (funext fun a => Fin.ext ?_)
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
theorem firstBlk_eq (c : Dev nD) (x : S128x128.Idx) :
    firstBlk W c x = W c (Proc.devRef .tc main_v3) (ofN S262144x128 pos_S262144x128 ![(x 0).val, (x 1).val]) := by
  refine congrArg (W c (Proc.devRef .tc main_v3)) (eq_ofN _ _ _ _ fun a => ?_)
  match a with
  | ⟨0, _⟩ => show 0 + 1 * (x 0).val = (x 0).val; omega
  | ⟨1, _⟩ => show 0 + 1 * (x 1).val = (x 1).val; omega

/-- The row and column of a cell in the first block. -/
def inFirst (i : S262144x128.Idx) : S128x128.Idx := ofN S128x128 pos_S128x128 ![(i 0).val, (i 1).val]

/-- The merge's result: in the first 128 rows the merged patch, below them what the array held. -/
theorem merge_out (c : Dev nD) (i : S262144x128.Idx) :
    (dat3 n b W c).arrAt 3 cfg3.N i
      = if (i 0).val < 128 then merged (α := Elt F .f32) (marks W c) (vals W c) (firstBlk W c) 32 (inFirst i)
        else W c (Proc.devRef .tc main_v8) i := by
  have e := (dat3 n b W c).arrAt_eq_of_coversWhere 3
    (fun i => merged (α := Elt F .f32) (marks W c) (vals W c) (firstBlk W c) 32 (inFirst i)) (fun β => β (0 : Fin 2) = 0) (by decide +kernel)
    (fun t hf y => by
      obtain rfl : t = t3_0 := fin_N3 t
      refine congrArg (merged (α := Elt F .f32) (marks W c) (vals W c) (firstBlk W c) 32) ?_
      refine eq_ofN _ _ _ _ fun a => ?_
      match a with
      | ⟨0, _⟩ => show (y 0).val = 0 + 1 * (y 0).val; omega
      | ⟨1, _⟩ => show (y 1).val = 0 + 1 * (y 1).val; omega)
    (P := fun i => (i 0).val / 128 = 0) (fun j => Iff.rfl)
  rw [e]
  show (if (i 0).val / 128 = 0 then _ else W c (Proc.devRef .tc main_v8) i) = _
  have h : ((i 0).val / 128 = 0) = ((i 0).val < 128) := propext (by omega)
  simp only [h]

end Merge

end Cert.Proof.Sc

end
-- ==== Proof.Prelude.lean ====
/-
  The first SparseCore call's body on one vector subcore: two halves, each fetching 4096 rows of the four index pairs and
  updates, computing 16384 cell numbers sixteen at a time, and writing them and the updates out in row-major order.
-/
module

public import proofs.«01_k».proof.Proof.Setup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

variable [FloatOps F] (d : Dev nD) (L : grid0.Coords)

/-- The rows half `r` of a subcore's work starts at. -/
def rowBase (r : ℕ) : ℕ := 16384 * (L 1).val + 8192 * (L 0).val + 4096 * r

/-- The fetched index pairs are the rows from `b` on. -/
def Holds6 (si : S4x2x262144.Idx → BitVec 32) (b : ℕ) (f : S4x2x4096.Idx → BitVec 32) : Prop :=
  ∀ x : S4x2x4096.Idx, f x = si (ofN _ pos_S4x2x262144 ![(x 0).val, (x 1).val, b + (x 2).val])
/-- The fetched updates are those of the rows from `b` on. -/
def Holds7 {α : Type} (up : S4x262144.Idx → α) (b : ℕ) (f : S4x4096.Idx → α) : Prop :=
  ∀ x : S4x4096.Idx, f x = up (ofN _ pos_S4x262144 ![(x 0).val, b + (x 1).val])
/-- The first `n` words are the wanted ones, from entry `b` on. -/
def Upto {α : Type} (g : S1048576.Idx → α) (b n : ℕ) (f : S16384.Idx → α) : Prop :=
  ∀ x : S16384.Idx, (x 0).val < n → f x = g (ofN _ pos_S1048576 ![b + (x 0).val])

/-- The loops' invariant before trip `k`: the fetched words unchanged, the first `16 k` outputs computed. -/
def inv0 (si : S4x2x262144.Idx → BitVec 32) (up : S4x262144.Idx → Elt F .f32) (r : ℕ) (k : Nat) (_ : BitVec 32) : sProp 𝕄 :=
  iprop((∃ f, ⌜Holds6 si (rowBase L r) f⌝ ∗ (p6V).view.loc (VT d L) ↦{fullShare} f)
    ∗ (∃ f, ⌜Holds7 up (rowBase L r) f⌝ ∗ (p7V).view.loc (VT d L) ↦{fullShare} f)
    ∗ (∃ f, ⌜Upto (keysOf si) (4 * rowBase L r) (16 * k) f⌝ ∗ (p8V).view.loc (VT d L) ↦{fullShare} f)
    ∗ (∃ f, ⌜Upto (linOf up) (4 * rowBase L r) (16 * k) f⌝ ∗ (p9V).view.loc (VT d L) ↦{fullShare} f))

/-- The entry numbers a trip's sixteen lanes compute. -/
theorem lane_val (k : Fin k0_t1_loop.trips) (x : S16.Idx) : (k0_pay5 k x).toNat = 16 * k.val + (x 0).val := by
  have hk : k.val < 1024 := lt_of_lt_of_le k.isLt k0_t1_abs.2.1
  have hx : (x 0).val < 16 := (x 0).isLt
  unfold k0_pay5
  simp [addi, broadcast, IntOp.addi, Scalar.muli, IntOp.muli, Scf.iv, iota]
  omega
/-- The row of a lane's entry, within the half. -/
theorem row_val (k : Fin k0_t1_loop.trips) (x : S16.Idx) : (k0_pay6 k x).toNat = (16 * k.val + (x 0).val) / 4 := by
  have hk : k.val < 1024 := lt_of_lt_of_le k.isLt k0_t1_abs.2.1
  have hx : (x 0).val < 16 := (x 0).isLt
  have h := lane_val k x
  unfold k0_pay6
  simp [shrsi, broadcast, IntOp.shrsi]
  rw [BitVec.sshiftRight_eq_of_msb_false (by rw [BitVec.msb_eq_decide, decide_eq_false_iff_not, h]; omega), BitVec.toNat_ushiftRight, h, Nat.shiftRight_eq_div_pow]
/-- The component of a lane's entry. -/
theorem comp_val (k : Fin k0_t1_loop.trips) (x : S16.Idx) : (k0_pay7 k x).toNat = (16 * k.val + (x 0).val) % 4 := by
  have h := lane_val k x
  unfold k0_pay7
  simp [andi, broadcast, IntOp.andi, h]
  exact Nat.and_two_pow_sub_one_eq_mod _ 2

/-- Every index a trip names is inside its buffer. -/
theorem chk1_holds (k : Fin k0_t1_loop.trips) : k0_chk1 (broadcast S16 0#32) (broadcast S16 1#32) (k0_pay6 k) (k0_pay7 k) := by
  have hk : k.val < 1024 := lt_of_lt_of_le k.isLt k0_t1_abs.2.1
  have hr (x : S16.Idx) : (k0_pay6 k x).toNat < 4096 := by
    have hx : (x 0).val < 16 := (x 0).isLt
    rw [row_val]; omega
  have hc (x : S16.Idx) : (k0_pay7 k x).toNat < 4 := by rw [comp_val]; omega
  have h0 (x : S16.Idx) : ((broadcast S16 0#32 : IVec S16 32) x).toNat < 2 := (by decide : (0#32).toNat < 2)
  have h1 (x : S16.Idx) : ((broadcast S16 1#32 : IVec S16 32) x).toNat < 2 := (by decide : (1#32).toNat < 2)
  refine ⟨fun a x => ?_, fun a x => ?_, fun a x => ?_⟩
  · match a with
    | 0 => exact hc x
    | 1 => exact h0 x
    | 2 => exact hr x
  · match a with
    | 0 => exact hc x
    | 1 => exact h1 x
    | 2 => exact hr x
  · match a with
    | 0 => exact hc x
    | 1 => exact hr x

/-- Sixteen more words stored on from word `16 k`. -/
theorem upto_write8 {off : Fin 1 → ℕ} (inb : ∀ a, off a + S16.size a ≤ S16384.size a) {k b : ℕ} (hoff : off = ![16 * k])
    {g : S1048576.Idx → BitVec 32} (f : S16384.Idx → BitVec 32) (hf : Upto g b (16 * k) f) (w : S16.Idx → BitVec 32)
    (hw : ∀ x : S16.Idx, w x = g (ofN _ pos_S1048576 ![b + (16 * k + (x 0).val)])) :
    Upto g b (16 * (k + 1)) (p8V.view.writes (Elt F) f [⟨Rect.unit (s := S16384) off S16.size inb, w⟩]) := by
  intro y hy
  by_cases h : (y 0).val < 16 * k
  · exact (View.read_writes_cons_miss_of_axis (Val := Elt F) p8V.view f ⟨Rect.unit (s := S16384) off S16.size inb, w⟩ [] y 0 (16 * k) 16
      (by show off 0 = _; rw [hoff]; rfl) rfl rfl (.inl h)).trans (hf y h)
  · have hx : (y 0).val - 16 * k < 16 := by omega
    refine (View.read_writes_cons_hit_of_coords (Val := Elt F) p8V.view f (Rect.unit (s := S16384) off S16.size inb) w [] (fun a => ⟨(y 0).val - 16 * k, by obtain rfl : a = 0 := Subsingleton.elim _ _; exact hx⟩) y ?_).trans ?_
    · intro a
      obtain rfl : a = 0 := Subsingleton.elim _ _
      show (y 0).val = off 0 + 1 * ((y 0).val - 16 * k)
      rw [hoff]; show _ = 16 * k + _; omega
    · rw [hw]
      show g (ofN _ _ ![b + (16 * k + ((y 0).val - 16 * k))]) = _
      rw [Nat.add_sub_cancel' (by omega)]
theorem upto_write9 {off : Fin 1 → ℕ} (inb : ∀ a, off a + S16.size a ≤ S16384.size a) {k b : ℕ} (hoff : off = ![16 * k])
    {g : S1048576.Idx → Elt F .f32} (f : S16384.Idx → Elt F .f32) (hf : Upto g b (16 * k) f) (w : S16.Idx → Elt F .f32)
    (hw : ∀ x : S16.Idx, w x = g (ofN _ pos_S1048576 ![b + (16 * k + (x 0).val)])) :
    Upto g b (16 * (k + 1)) (p9V.view.writes (Elt F) f [⟨Rect.unit (s := S16384) off S16.size inb, w⟩]) := by
  intro y hy
  by_cases h : (y 0).val < 16 * k
  · exact (View.read_writes_cons_miss_of_axis (Val := Elt F) p9V.view f ⟨Rect.unit (s := S16384) off S16.size inb, w⟩ [] y 0 (16 * k) 16
      (by show off 0 = _; rw [hoff]; rfl) rfl rfl (.inl h)).trans (hf y h)
  · have hx : (y 0).val - 16 * k < 16 := by omega
    refine (View.read_writes_cons_hit_of_coords (Val := Elt F) p9V.view f (Rect.unit (s := S16384) off S16.size inb) w [] (fun a => ⟨(y 0).val - 16 * k, by obtain rfl : a = 0 := Subsingleton.elim _ _; exact hx⟩) y ?_).trans ?_
    · intro a
      obtain rfl : a = 0 := Subsingleton.elim _ _
      show (y 0).val = off 0 + 1 * ((y 0).val - 16 * k)
      rw [hoff]; show _ = 16 * k + _; omega
    · rw [hw]
      show g (ofN _ _ ![b + (16 * k + ((y 0).val - 16 * k))]) = _
      rw [Nat.add_sub_cancel' (by omega)]

/-- The key a lane computes. -/
theorem key_lane (si : S4x2x262144.Idx → BitVec 32) (r : ℕ) (hr : rowBase L r + 4096 ≤ 262144) (k : Fin k0_t1_loop.trips)
    (f6 : S4x2x4096.Idx → BitVec 32) (h6 : Holds6 si (rowBase L r) f6)
    (ha : ∀ a x, ((![k0_pay7 k, broadcast S16 0#32, k0_pay6 k] : Fin 3 → IVec S16 32) a x).toNat < S4x2x4096.size a)
    (hb : ∀ a x, ((![k0_pay7 k, broadcast S16 1#32, k0_pay6 k] : Fin 3 → IVec S16 32) a x).toNat < S4x2x4096.size a) (x : S16.Idx) :
    k0_pay8 (F := F) (loadIdx (F := F) f6 _ ha) (loadIdx (F := F) f6 _ hb) x
      = keysOf si (ofN _ pos_S1048576 ![4 * rowBase L r + (16 * k.val + (x 0).val)]) := by
  have hk : k.val < 1024 := lt_of_lt_of_le k.isLt k0_t1_abs.2.1
  have hx : (x 0).val < 16 := (x 0).isLt
  have e : ((ofN S1048576 pos_S1048576 ![4 * rowBase L r + (16 * k.val + (x 0).val)]) 0).val = 4 * rowBase L r + (16 * k.val + (x 0).val) :=
    ofN_val S1048576 pos_S1048576 ![4 * rowBase L r + (16 * k.val + (x 0).val)] 0 (by show 4 * rowBase L r + (16 * k.val + (x 0).val) < 1048576; omega)
  have ec : (k0_pay7 k x).toNat = (4 * rowBase L r + (16 * k.val + (x 0).val)) % 4 := by rw [comp_val]; omega
  have er : rowBase L r + (k0_pay6 k x).toNat = (4 * rowBase L r + (16 * k.val + (x 0).val)) / 4 := by rw [row_val]; omega
  show f6 (idxAt (s := S4x2x4096) _ ha x) * 128#32 + f6 (idxAt (s := S4x2x4096) _ hb x) = _
  rw [h6, h6]
  unfold keysOf
  rw [e, ← ec, ← er]
  rfl
/-- The update a lane moves. -/
theorem lin_lane (up : S4x262144.Idx → Elt F .f32) (r : ℕ) (hr : rowBase L r + 4096 ≤ 262144) (k : Fin k0_t1_loop.trips)
    (f7 : S4x4096.Idx → Elt F .f32) (h7 : Holds7 up (rowBase L r) f7)
    (ha : ∀ a x, ((![k0_pay7 k, k0_pay6 k] : Fin 2 → IVec S16 32) a x).toNat < S4x4096.size a) (x : S16.Idx) :
    loadIdx f7 _ ha x = linOf up (ofN _ pos_S1048576 ![4 * rowBase L r + (16 * k.val + (x 0).val)]) := by
  have hk : k.val < 1024 := lt_of_lt_of_le k.isLt k0_t1_abs.2.1
  have hx : (x 0).val < 16 := (x 0).isLt
  have e : ((ofN S1048576 pos_S1048576 ![4 * rowBase L r + (16 * k.val + (x 0).val)]) 0).val = 4 * rowBase L r + (16 * k.val + (x 0).val) :=
    ofN_val S1048576 pos_S1048576 ![4 * rowBase L r + (16 * k.val + (x 0).val)] 0 (by show 4 * rowBase L r + (16 * k.val + (x 0).val) < 1048576; omega)
  have ec : (k0_pay7 k x).toNat = (4 * rowBase L r + (16 * k.val + (x 0).val)) % 4 := by rw [comp_val]; omega
  have er : rowBase L r + (k0_pay6 k x).toNat = (4 * rowBase L r + (16 * k.val + (x 0).val)) / 4 := by rw [row_val]; omega
  show f7 (idxAt (s := S4x4096) _ ha x) = _
  rw [h7]
  unfold linOf
  rw [e, ← ec, ← er]
  rfl

theorem read6 (f : S4x2x4096.Idx → BitVec 32) : View.readAt (Elt F) p6V.view (LoadRect.whole S4x2x4096) f = f :=
  Memref.readAt_whole (Elt F) cc0_scratch0 f
theorem read7 (f : S4x4096.Idx → Elt F .f32) : View.readAt (Elt F) p7V.view (LoadRect.whole S4x4096) f = f :=
  Memref.readAt_whole (Elt F) cc0_scratch1 f

/-- One trip of the loop. -/
theorem trip1 (si : S4x2x262144.Idx → BitVec 32) (up : S4x262144.Idx → Elt F .f32) (r : ℕ) (hr : rowBase L r + 4096 ≤ 262144)
    (k : Fin k0_t1_loop.trips) (a : BitVec 32) :
    inv0 d L si up r k.val a ⊢ wp frame (wpE (defs₀ (F := F)) 𝒱₀ (VT d L) none) Set.univ
      (k0_t1_body L siV (Memref.isWhole_whole _) upV (Memref.isWhole_whole _) kyV (Memref.isWhole_whole _) ulV (Memref.isWhole_whole _)
            p6V (Memref.isWhole_whole _) p7V (Memref.isWhole_whole _) p8V (Memref.isWhole_whole _) p9V (Memref.isWhole_whole _)
            cc0_scratch4 cc0_scratch5 cc0_scoped0 cc0_scoped1 cc0_scoped2 cc0_scoped3 (broadcast S16 0#32) (broadcast S16 1#32) k a)
      fun b => inv0 d L si up r (k.val + 1) b := by
  have hk : k.val < 1024 := lt_of_lt_of_le k.isLt k0_t1_abs.2.1
  have hchk := chk1_holds k
  generalize he : k0_t1_body L siV (Memref.isWhole_whole _) upV (Memref.isWhole_whole _) kyV (Memref.isWhole_whole _) ulV (Memref.isWhole_whole _)
            p6V (Memref.isWhole_whole _) p7V (Memref.isWhole_whole _) p8V (Memref.isWhole_whole _) p9V (Memref.isWhole_whole _)
            cc0_scratch4 cc0_scratch5 cc0_scoped0 cc0_scoped1 cc0_scoped2 cc0_scoped3 (broadcast S16 0#32) (broadcast S16 1#32) k a = e
  unfold k0_t1_body at he
  simp only [Prog.lift, Prog.bind_op, Prog.bind_ret, Prog.pure_eq_ret, Prog.bind_assoc, SparseCore.vectorLoadIdx] at he
  subst he
  unfold inv0
  iintro ⟨⟨%f6, %h6, H6⟩, ⟨%f7, %h7, H7⟩, ⟨%f8, %h8, H8⟩, ⟨%f9, %h9, H9⟩⟩
  rw [wp_assume_of _ _ _ _ hchk]
  sl_exec
  sl_step
  isplitl [H6]; · iexists f6; isplitr; · ipureintro; exact h6
                  iexact H6
  isplitl [H7]; · iexists f7; isplitr; · ipureintro; exact h7
                  iexact H7
  isplitl [H8]
  · iexists _; isplitr
    rotate_left
    · iexact H8
    · ipureintro
      rw [read6]
      exact upto_write8 _ (k0_off3_eq k) f8 h8 _ fun x => key_lane (F := F) L si r hr k f6 h6 _ _ x
  · iexists _; isplitr
    rotate_left
    · iexact H9
    · ipureintro
      rw [read7]
      exact upto_write9 _ (k0_off3_eq k) f9 h9 _ fun x => lin_lane L up r hr k f7 h7 _ x

theorem trip2 (si : S4x2x262144.Idx → BitVec 32) (up : S4x262144.Idx → Elt F .f32) (r : ℕ) (hr : rowBase L r + 4096 ≤ 262144)
    (k : Fin k0_t2_loop.trips) (a : BitVec 32) :
    inv0 d L si up r k.val a ⊢ wp frame (wpE (defs₀ (F := F)) 𝒱₀ (VT d L) none) Set.univ
      (k0_t2_body L siV (Memref.isWhole_whole _) upV (Memref.isWhole_whole _) kyV (Memref.isWhole_whole _) ulV (Memref.isWhole_whole _)
            p6V (Memref.isWhole_whole _) p7V (Memref.isWhole_whole _) p8V (Memref.isWhole_whole _) p9V (Memref.isWhole_whole _)
            cc0_scratch4 cc0_scratch5 cc0_scoped0 cc0_scoped1 cc0_scoped2 cc0_scoped3 (iota .scVector S16 32 [0] iota_S16_d0_w32_scVector)
            (broadcast S16 0#32) (broadcast S16 1#32) k a)
      fun b => inv0 d L si up r (k.val + 1) b := trip1 d L si up r hr k a

/-- The fetch of a half's index pairs. -/
theorem holds6_dma (si : S4x2x262144.Idx → BitVec 32) {off : Fin 3 → ℕ} (inb : ∀ a, off a + S4x2x4096.size a ≤ S4x2x262144.size a)
    {b : ℕ} (hoff : off = ![0, 0, b]) :
    Holds6 si b ((siV.slice (Rect.unit (s := S4x2x262144) off S4x2x4096.size inb) (fun _ => rfl)).view.read (Elt F) si) := by
  intro x
  show si ((Rect.unit (s := S4x2x262144) off S4x2x4096.size inb).emb x) = _
  congr 1
  have h2 : b + (x 2).val < 262144 := by
    have h := inb 2; have hx : (x 2).val < 4096 := (x 2).isLt; rw [hoff] at h
    have h' : b + 4096 ≤ 262144 := h
    omega
  refine eq_ofN _ _ _ _ fun a => ?_
  match a with
  | 0 => show off 0 + 1 * (x 0).val = (x 0).val; rw [hoff]; show 0 + _ = _; omega
  | 1 => show off 1 + 1 * (x 1).val = (x 1).val; rw [hoff]; show 0 + _ = _; omega
  | 2 => show off 2 + 1 * (x 2).val = b + (x 2).val; rw [hoff]; show b + _ = _; omega
/-- The fetch of a half's updates. -/
theorem holds7_dma (up : S4x262144.Idx → Elt F .f32) {off : Fin 2 → ℕ} (inb : ∀ a, off a + S4x4096.size a ≤ S4x262144.size a)
    {b : ℕ} (hoff : off = ![0, b]) :
    Holds7 up b ((upV.slice (Rect.unit (s := S4x262144) off S4x4096.size inb) (fun _ => rfl)).view.read (Elt F) up) := by
  intro x
  show up ((Rect.unit (s := S4x262144) off S4x4096.size inb).emb x) = _
  congr 1
  refine eq_ofN _ _ _ _ fun a => ?_
  match a with
  | 0 => show off 0 + 1 * (x 0).val = (x 0).val; rw [hoff]; show 0 + _ = _; omega
  | 1 => show off 1 + 1 * (x 1).val = b + (x 1).val; rw [hoff]; show b + _ = _; omega

/-- The whole of a half's words written out, at the elements written. -/
theorem ky_written (g : S1048576.Idx → BitVec 32) (r : Fin 2) (f : S16384.Idx → BitVec 32) (h : Upto g (4 * rowBase L r.val) (16 * 1024) f)
    (f0 : S1048576.Idx → BitVec 32) (i : S1048576.Idx) (hi : i ∈ (kyBlk L r).view.set) :
    (kyBlk L r).view.writes (Elt F) f0 [⟨Rect.whole S16384, f⟩] i = g i := by
  obtain ⟨x, -, rfl⟩ := Finset.mem_map.mp hi
  have e := View.read_writes_cons_emb (Val := Elt F) (kyBlk L r).view f0 (Rect.whole S16384) f [] x
  rw [Rect.emb_whole_apply] at e
  rw [View.read_apply] at e
  refine (eq_of_heq ((cast_heq _ _).symm.trans (heq_of_eq e))).trans ?_
  have hx : (x 0).val < 16384 := (x 0).isLt
  refine (h x hx).trans (congrArg g (eq_ofN _ _ _ _ fun a => ?_).symm)
  obtain rfl : a = 0 := Subsingleton.elim _ _
  show k0_off4 L _ 0 + 1 * (x 0).val = 4 * rowBase L r.val + (x 0).val
  rw [k0_off4_eq]; unfold rowBase; show _ + _ + _ + _ = _; omega
theorem ul_written (g : S1048576.Idx → Elt F .f32) (r : Fin 2) (f : S16384.Idx → Elt F .f32) (h : Upto g (4 * rowBase L r.val) (16 * 1024) f)
    (f0 : S1048576.Idx → Elt F .f32) (i : S1048576.Idx) (hi : i ∈ (ulBlk L r).view.set) :
    (ulBlk L r).view.writes (Elt F) f0 [⟨Rect.whole S16384, f⟩] i = g i := by
  obtain ⟨x, -, rfl⟩ := Finset.mem_map.mp hi
  have e := View.read_writes_cons_emb (Val := Elt F) (ulBlk L r).view f0 (Rect.whole S16384) f [] x
  rw [Rect.emb_whole_apply] at e
  rw [View.read_apply] at e
  refine (eq_of_heq ((cast_heq _ _).symm.trans (heq_of_eq e))).trans ?_
  have hx : (x 0).val < 16384 := (x 0).isLt
  refine (h x hx).trans (congrArg g (eq_ofN _ _ _ _ fun a => ?_).symm)
  obtain rfl : a = 0 := Subsingleton.elim _ _
  show k0_off4 L _ 0 + 1 * (x 0).val = 4 * rowBase L r.val + (x 0).val
  rw [k0_off4_eq]; unfold rowBase; show _ + _ + _ + _ = _; omega

theorem ky_pts (g : S1048576.Idx → BitVec 32) (r : Fin 2) (f : S16384.Idx → BitVec 32) (h : Upto g (4 * rowBase L r.val) (16 * 1024) f)
    (f0 : S1048576.Idx → BitVec 32) (w : S16384.Idx → BitVec 32) (hw : w = f) :
    ((kyBlk L r).view.loc (VT d L) ↦[(kyBlk L r).view.set]{fullShare} (kyBlk L r).view.writes (Elt F) f0 [⟨Rect.whole S16384, w⟩] : sProp 𝕄)
      ⊢ ((kyBlk L r).view.loc (VT d L) ↦[(kyBlk L r).view.set]{fullShare} g) := by
  subst hw
  exact Entails.of_eq (pointsTo_congr fun i hi => ky_written (F := F) L g r w h f0 i hi)
theorem ul_pts (g : S1048576.Idx → Elt F .f32) (r : Fin 2) (f : S16384.Idx → Elt F .f32) (h : Upto g (4 * rowBase L r.val) (16 * 1024) f)
    (f0 : S1048576.Idx → Elt F .f32) (w : S16384.Idx → Elt F .f32) (hw : w = f) :
    ((ulBlk L r).view.loc (VT d L) ↦[(ulBlk L r).view.set]{fullShare} (ulBlk L r).view.writes (Elt F) f0 [⟨Rect.whole S16384, w⟩] : sProp 𝕄)
      ⊢ ((ulBlk L r).view.loc (VT d L) ↦[(ulBlk L r).view.set]{fullShare} g) := by
  subst hw
  exact Entails.of_eq (pointsTo_congr fun i hi => ul_written (F := F) L g r w h f0 i hi)

theorem rowBase_le (r : ℕ) (hr : r < 2) : rowBase L r + 4096 ≤ 262144 := by
  have h1 : (L 1).val < 16 := (L 1).isLt
  have h0 : (L 0).val < 2 := (L 0).isLt
  unfold rowBase; omega
theorem trips1 : k0_t1_loop.trips = 1024 := by decide +kernel
theorem trips2 : k0_t2_loop.trips = 1024 := by decide +kernel

abbrev cell10 : GSem nD τ sig := (VT d L, .dma cc0_scratch4.sem)
abbrev cell11 : GSem nD τ sig := (VT d L, .dma cc0_scratch5.sem)
abbrev cellR0 : GSem nD τ sig := (VT d L, .dma cc0_scoped0.sem)
abbrev cellR1 : GSem nD τ sig := (VT d L, .dma cc0_scoped1.sem)
abbrev cellR2 : GSem nD τ sig := (VT d L, .dma cc0_scoped2.sem)
abbrev cellR3 : GSem nD τ sig := (VT d L, .dma cc0_scoped3.sem)
abbrev cells0 : sProp 𝕄 :=
  iprop(semVal (cell10 d L) 0 ∗ semVal (cell11 d L) 0 ∗ semVal (cellR0 d L) 0 ∗ semVal (cellR1 d L) 0 ∗ semVal (cellR2 d L) 0 ∗ semVal (cellR3 d L) 0)

/-- The body of the first call on one vector subcore, from the pieces it is dealt. -/
theorem prelude_run (si : S4x2x262144.Idx → BitVec 32) (up : S4x262144.Idx → Elt F .f32)
    (O : CellTallies nD τ sig (HIx 2)) (W : Waits sig (HIx 2)) (q : PosShare TreeShare)
    (h0 h1 : Buf (Elt F) (kyLoc d)) (u0 u1 : Buf (Elt F) (ulLoc d))
    (g6 : Buf (Elt F) ((p6V).view.loc (VT d L))) (g7 : Buf (Elt F) ((p7V).view.loc (VT d L)))
    (g8 : Buf (Elt F) ((p8V).view.loc (VT d L))) (g9 : Buf (Elt F) ((p9V).view.loc (VT d L))) :
    (iprop(Transfers.MayWaits (VT d L) (none : HIx 2) O
        ∗ ((siV).view.loc (VT d L) ↦{q} si)
        ∗ ((upV).view.loc (VT d L) ↦{q} up)
        ∗ ((kyBlk L 0).view.loc (VT d L) ↦[(kyBlk L 0).view.set]{fullShare} h0)
        ∗ ((kyBlk L 1).view.loc (VT d L) ↦[(kyBlk L 1).view.set]{fullShare} h1)
        ∗ ((ulBlk L 0).view.loc (VT d L) ↦[(ulBlk L 0).view.set]{fullShare} u0)
        ∗ ((ulBlk L 1).view.loc (VT d L) ↦[(ulBlk L 1).view.set]{fullShare} u1)
        ∗ ((p6V).view.loc (VT d L) ↦{fullShare} g6)
        ∗ ((p7V).view.loc (VT d L) ↦{fullShare} g7)
        ∗ ((p8V).view.loc (VT d L) ↦{fullShare} g8)
        ∗ ((p9V).view.loc (VT d L) ↦{fullShare} g9)
        ∗ cells0 d L
        ∗ owes (VT d L) O W) : sProp 𝕄)
      ⊢ wp frame (wpE (defs₀ (F := F)) 𝒱₀ (VT d L) none) Set.univ
          (cc0__sc_prelude_body L siV (Memref.isWhole_whole _) upV (Memref.isWhole_whole _) kyV (Memref.isWhole_whole _) ulV (Memref.isWhole_whole _)
            p6V (Memref.isWhole_whole _) p7V (Memref.isWhole_whole _) p8V (Memref.isWhole_whole _) p9V (Memref.isWhole_whole _)
            cc0_scratch4 cc0_scratch5 cc0_scoped0 cc0_scoped1 cc0_scoped2 cc0_scoped3)
          fun _ => iprop(((siV).view.loc (VT d L) ↦{q} si)
            ∗ ((upV).view.loc (VT d L) ↦{q} up)
            ∗ ((kyBlk L 0).view.loc (VT d L) ↦[(kyBlk L 0).view.set]{fullShare} keysOf si)
            ∗ ((kyBlk L 1).view.loc (VT d L) ↦[(kyBlk L 1).view.set]{fullShare} keysOf si)
            ∗ ((ulBlk L 0).view.loc (VT d L) ↦[(ulBlk L 0).view.set]{fullShare} linOf up)
            ∗ ((ulBlk L 1).view.loc (VT d L) ↦[(ulBlk L 1).view.set]{fullShare} linOf up)
            ∗ (∃ g, (p6V).view.loc (VT d L) ↦{fullShare} g)
            ∗ (∃ g, (p7V).view.loc (VT d L) ↦{fullShare} g)
            ∗ (∃ g, (p8V).view.loc (VT d L) ↦{fullShare} g)
            ∗ (∃ g, (p9V).view.loc (VT d L) ↦{fullShare} g)
            ∗ cells0 d L
            ∗ ∃ W', ⌜∀ p ∈ W', p ∈ W ∨ p.2 = none⌝ ∗ owes (VT d L) O W') := by
  iintro ⟨#Hmw, Hsi, Hup, Hk0, Hk1, Hu0, Hu1, H6, H7, H8, H9, ⟨Hc10, Hc11, Hc0, Hc1, Hc2, Hc3⟩, HO⟩
  generalize he : cc0__sc_prelude_body L siV (Memref.isWhole_whole _) upV (Memref.isWhole_whole _) kyV (Memref.isWhole_whole _) ulV (Memref.isWhole_whole _)
            p6V (Memref.isWhole_whole _) p7V (Memref.isWhole_whole _) p8V (Memref.isWhole_whole _) p9V (Memref.isWhole_whole _)
            cc0_scratch4 cc0_scratch5 cc0_scoped0 cc0_scoped1 cc0_scoped2 cc0_scoped3 = e
  rw [cc0__sc_prelude_body_eq_skeleton] at he
  unfold cc0__sc_prelude_body_skel at he
  rw [k0_part1_eq_skeleton] at he
  unfold k0_part1_skel at he
  simp only [Prog.lift, Prog.bind_op, Prog.bind_ret, Prog.pure_eq_ret, Prog.bind_assoc] at he
  subst he
  sl_exec
  sl_for (inv0 d L si up 0) $$ [H6 H7 H8 H9]
  case region => intro k a; exact trip1 d L si up 0 (rowBase_le L 0 (by decide)) k a
  · unfold inv0
    isplitl [H6]
    · iexists _; isplitr
      rotate_left
      · iexact H6
      · ipureintro; rw [View.write_whole_univ]; exact holds6_dma (F := F) si _ (k0_off1_eq L)
    isplitl [H7]
    · iexists _; isplitr
      rotate_left
      · iexact H7
      · ipureintro; rw [View.write_whole_univ]; exact holds7_dma up _ (k0_off2_eq L)
    isplitl [H8]; · iexists _; isplitr
                    rotate_left
                    · iexact H8
                    · ipureintro; exact fun x hx => absurd hx (Nat.not_lt_zero _)
    iexists _; isplitr
    rotate_left
    · iexact H9
    · ipureintro; exact fun x hx => absurd hx (Nat.not_lt_zero _)
  iintro %_ HI
  unfold inv0
  icases HI with ⟨⟨%f6, %h6, H6⟩, ⟨%f7, %h7, H7⟩, ⟨%f8, %h8, H8⟩, ⟨%f9, %h9, H9⟩⟩
  have h8' : Upto (keysOf si) (4 * rowBase L (0 : Fin 2).val) (16 * 1024) f8 := by rw [← trips1]; exact h8
  have h9' : Upto (linOf up) (4 * rowBase L (0 : Fin 2).val) (16 * 1024) f9 := by rw [← trips1]; exact h9
  sl_exec
  sl_for (inv0 d L si up 1) $$ [H6 H7 H8 H9]
  case region => intro k a; exact trip2 d L si up 1 (rowBase_le L 1 (by decide)) k a
  · unfold inv0
    isplitl [H6]
    · iexists _; isplitr
      rotate_left
      · iexact H6
      · ipureintro; rw [View.write_whole_univ]; exact holds6_dma (F := F) si _ (k0_off5_eq L)
    isplitl [H7]
    · iexists _; isplitr
      rotate_left
      · iexact H7
      · ipureintro; rw [View.write_whole_univ]; exact holds7_dma up _ (k0_off6_eq L)
    isplitl [H8]; · iexists _; isplitr
                    rotate_left
                    · iexact H8
                    · ipureintro; exact fun x hx => absurd hx (Nat.not_lt_zero _)
    iexists _; isplitr
    rotate_left
    · iexact H9
    · ipureintro; exact fun x hx => absurd hx (Nat.not_lt_zero _)
  iintro %_ HI
  unfold inv0
  icases HI with ⟨⟨%e6, %i6, H6⟩, ⟨%e7, %i7, H7⟩, ⟨%e8, %i8, H8⟩, ⟨%e9, %i9, H9⟩⟩
  have i8' : Upto (keysOf si) (4 * rowBase L (1 : Fin 2).val) (16 * 1024) e8 := by rw [← trips2]; exact i8
  have i9' : Upto (linOf up) (4 * rowBase L (1 : Fin 2).val) (16 * 1024) e9 := by rw [← trips2]; exact i9
  sl_exec
  sl_step
  ihave Hk0' := (ky_pts (F := F) d L (keysOf si) 0 f8 h8' _ _ ?_) $$ Hk0
  · rfl
  ihave Hk1' := (ky_pts (F := F) d L (keysOf si) 1 e8 i8' _ _ ?_) $$ Hk1
  · rfl
  ihave Hu0' := (ul_pts (F := F) d L (linOf up) 0 f9 h9' _ _ ?_) $$ Hu0
  · rfl
  ihave Hu1' := (ul_pts (F := F) d L (linOf up) 1 e9 i9' _ _ ?_) $$ Hu1
  · rfl
  isplitl [Hsi]; · iexact Hsi
  isplitl [Hup]; · iexact Hup
  isplitl [Hk0']; · iexact Hk0'
  isplitl [Hk1']; · iexact Hk1'
  isplitl [Hu0']; · iexact Hu0'
  isplitl [Hu1']; · iexact Hu1'
  isplitl [H6]; · iexists _; iexact H6
  isplitl [H7]; · iexists _; iexact H7
  isplitl [H8]; · iexists _; iexact H8
  isplitl [H9]; · iexists _; iexact H9
  isplitl [Hc10 Hc11 Hc0 Hc1 Hc2 Hc3]
  · isplitl [Hc10]; · iexact Hc10
    isplitl [Hc11]; · iexact Hc11
    isplitl [Hc0]; · iexact Hc0
    isplitl [Hc1]; · iexact Hc1
    isplitl [Hc2]; · iexact Hc2
    iexact Hc3
  iexists _; isplitr
  rotate_left
  · iexact HO
  · ipureintro
    intro p hp
    simp only [Finset.mem_insert] at hp
    rcases hp with rfl | rfl | rfl | rfl | rfl | rfl | rfl | rfl | hp
    all_goals first | exact .inr rfl | exact .inl hp

end Cert.Proof.Sc

end
-- ==== Proof.Scatter.lean ====
/-
  The second SparseCore call's body on one vector subcore: a chunk of 32768 sorted keys and updates is scanned sixteen at a
  time; where a key differs from the next one, its update is the last for that cell, and is stored at the cell in a plane of
  values, the cell being marked in a plane of marks. Both planes are written out as one row each.
-/
module

public import proofs.«01_k».proof.Proof.Setup

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

/-! ## The planes after so many trips -/

/-- The marks after `t` trips of subcore `w`'s scan: cell by cell, one where some key scanned so far was the last of its run. -/
def markPlane (sk : S1048576.Idx → BitVec 32) (w : ℕ) : ℕ → S16384.Idx → BitVec 32
  | 0 => fun _ => 0#32
  | t + 1 =>
    if h : ∀ a x, ((![curV sk w t] : Fin 1 → IVec S16 32) a x).toNat < S16384.size a then
      storeIdx (F := Bits) (e := .i32) (d := ![16]) (markPlane sk w t) ![curV sk w t] (broadcast S16 1#32) (cmpi .ne (curV sk w t) (nxtV sk w t)) false h
    else markPlane sk w t

variable [FloatOps F]

/-- The values after `t` trips. -/
def valPlane (sk : S1048576.Idx → BitVec 32) (sv : S1048576.Idx → Elt F .f32) (w : ℕ) : ℕ → S16384.Idx → Elt F .f32
  | 0 => fun _ => Scalar.ofBits .f32 0x00000000#32
  | t + 1 =>
    if h : ∀ a x, ((![curV sk w t] : Fin 1 → IVec S16 32) a x).toNat < S16384.size a then
      storeIdx (F := F) (e := .f32) (d := ![16]) (valPlane sk sv w t) ![curV sk w t] (valV sv w t) (cmpi .ne (curV sk w t) (nxtV sk w t)) false h
    else valPlane sk sv w t

variable (d : Dev nD) (L : grid2.Coords)

/-- The sorted key at a position, with a number no key equals past the last one. -/
def keyX (sk : S1048576.Idx → BitVec 32) (p : ℕ) : BitVec 32 := if p < 1048576 then keyAt sk p else -2#32

/-- The fetched keys: the chunk and one word more. -/
def HoldsK (sk : S1048576.Idx → BitVec 32) (w : ℕ) (f : S32784.Idx → BitVec 32) : Prop :=
  ∀ x : S32784.Idx, (x 0).val ≤ 32768 → f x = keyX sk (32768 * w + (x 0).val)
/-- The fetched updates. -/
def HoldsV {α : Type} (sv : S1048576.Idx → α) (w : ℕ) (f : S32768.Idx → α) : Prop :=
  ∀ x : S32768.Idx, f x = sv (ofN _ pos_S1048576 ![32768 * w + (x 0).val])
/-- The first `n` words are `z`. -/
def Fill {α : Type} (z : α) (n : ℕ) (f : S16384.Idx → α) : Prop := ∀ x : S16384.Idx, (x 0).val < n → f x = z

theorem trips3 : k2_t1_loop.trips = 1024 := by decide +kernel
theorem trips4 : k2_t2_loop.trips = 2048 := by decide +kernel

/-- The clearing loop's invariant. -/
def invZ (k : Nat) (_ : BitVec 32) : sProp 𝕄 :=
  iprop((∃ f, ⌜Fill 0#32 (16 * k) f⌝ ∗ (q8V).view.loc (VT d L) ↦{fullShare} f)
    ∗ (∃ f, ⌜Fill (Scalar.ofBits (F := F) .f32 0x00000000#32) (16 * k) f⌝ ∗ (q9V).view.loc (VT d L) ↦{fullShare} f))

/-- The scan's invariant. -/
def invS (sk : S1048576.Idx → BitVec 32) (sv : S1048576.Idx → Elt F .f32) (k : Nat) (_ : BitVec 32) : sProp 𝕄 :=
  iprop((∃ f, ⌜HoldsK sk (wid L) f⌝ ∗ (q6V).view.loc (VT d L) ↦{fullShare} f)
    ∗ (∃ f, ⌜HoldsV sv (wid L) f⌝ ∗ (q7V).view.loc (VT d L) ↦{fullShare} f)
    ∗ (∃ f, ⌜f = markPlane sk (wid L) k⌝ ∗ (q8V).view.loc (VT d L) ↦{fullShare} f)
    ∗ (∃ f, ⌜f = valPlane sk sv (wid L) k⌝ ∗ (q9V).view.loc (VT d L) ↦{fullShare} f))

theorem fill_write8 {off : Fin 1 → ℕ} (inb : ∀ a, off a + S16.size a ≤ S16384.size a) {k : ℕ} (hoff : off = ![16 * k])
    {z : BitVec 32} (f : S16384.Idx → BitVec 32) (hf : Fill z (16 * k) f) (w : S16.Idx → BitVec 32) (hw : ∀ x : S16.Idx, w x = z) :
    Fill z (16 * (k + 1)) (q8V.view.writes (Elt F) f [⟨Rect.unit (s := S16384) off S16.size inb, w⟩]) := by
  intro y hy
  by_cases h : (y 0).val < 16 * k
  · exact (View.read_writes_cons_miss_of_axis (Val := Elt F) q8V.view f ⟨Rect.unit (s := S16384) off S16.size inb, w⟩ [] y 0 (16 * k) 16
      (by show off 0 = _; rw [hoff]; rfl) rfl rfl (.inl h)).trans (hf y h)
  · have hx : (y 0).val - 16 * k < 16 := by omega
    refine (View.read_writes_cons_hit_of_coords (Val := Elt F) q8V.view f (Rect.unit (s := S16384) off S16.size inb) w [] (fun a => ⟨(y 0).val - 16 * k, by obtain rfl : a = 0 := Subsingleton.elim _ _; exact hx⟩) y ?_).trans (hw _)
    intro a
    obtain rfl : a = 0 := Subsingleton.elim _ _
    show (y 0).val = off 0 + 1 * ((y 0).val - 16 * k)
    rw [hoff]; show _ = 16 * k + _; omega
theorem fill_write9 {off : Fin 1 → ℕ} (inb : ∀ a, off a + S16.size a ≤ S16384.size a) {k : ℕ} (hoff : off = ![16 * k])
    {z : Elt F .f32} (f : S16384.Idx → Elt F .f32) (hf : Fill z (16 * k) f) (w : S16.Idx → Elt F .f32) (hw : ∀ x : S16.Idx, w x = z) :
    Fill z (16 * (k + 1)) (q9V.view.writes (Elt F) f [⟨Rect.unit (s := S16384) off S16.size inb, w⟩]) := by
  intro y hy
  by_cases h : (y 0).val < 16 * k
  · exact (View.read_writes_cons_miss_of_axis (Val := Elt F) q9V.view f ⟨Rect.unit (s := S16384) off S16.size inb, w⟩ [] y 0 (16 * k) 16
      (by show off 0 = _; rw [hoff]; rfl) rfl rfl (.inl h)).trans (hf y h)
  · have hx : (y 0).val - 16 * k < 16 := by omega
    refine (View.read_writes_cons_hit_of_coords (Val := Elt F) q9V.view f (Rect.unit (s := S16384) off S16.size inb) w [] (fun a => ⟨(y 0).val - 16 * k, by obtain rfl : a = 0 := Subsingleton.elim _ _; exact hx⟩) y ?_).trans (hw _)
    intro a
    obtain rfl : a = 0 := Subsingleton.elim _ _
    show (y 0).val = off 0 + 1 * ((y 0).val - 16 * k)
    rw [hoff]; show _ = 16 * k + _; omega

/-- One trip of the clearing loop. -/
theorem tripZ (k : Fin k2_t1_loop.trips) (a : BitVec 32) :
    invZ (F := F) d L k.val a ⊢ wp frame (wpE (defs₀ (F := F)) 𝒱₀ (VT d L) none) Set.univ
      (k2_t1_body L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3 k a)
      fun b => invZ (F := F) d L (k.val + 1) b := by
  generalize he : k2_t1_body (F := F) L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3 k a = e
  unfold k2_t1_body at he
  simp only [Prog.lift, Prog.bind_op, Prog.bind_ret, Prog.pure_eq_ret, Prog.bind_assoc] at he
  subst he
  unfold invZ
  iintro ⟨⟨%f8, %h8, H8⟩, ⟨%f9, %h9, H9⟩⟩
  sl_exec
  sl_step
  isplitl [H8]
  · iexists _; isplitr
    rotate_left
    · iexact H8
    · ipureintro
      exact fill_write8 _ (k2_off3_eq k) f8 h8 _ fun x => rfl
  · iexists _; isplitr
    rotate_left
    · iexact H9
    · ipureintro
      exact fill_write9 _ (k2_off3_eq k) f9 h9 _ fun x => rfl

/-- The positions a trip's sixteen lanes look ahead to, within the chunk. -/
theorem ahead_val (k : Fin k2_t2_loop.trips) (x : S16.Idx) : (k2_pay5 k x).toNat = 16 * k.val + 1 + (x 0).val := by
  have hk : k.val < 2048 := lt_of_lt_of_le k.isLt k2_t2_abs.2.1
  have hx : (x 0).val < 16 := (x 0).isLt
  unfold k2_pay5
  simp [addi, broadcast, IntOp.addi, Scalar.muli, IntOp.muli, Scalar.addi, Scf.iv, iota]
  omega

theorem chk1_ahead (k : Fin k2_t2_loop.trips) : k2_chk1 (k2_pay5 k) := by
  have hk : k.val < 2048 := lt_of_lt_of_le k.isLt k2_t2_abs.2.1
  intro a x
  obtain rfl : a = 0 := Subsingleton.elim _ _
  have hx : (x 0).val < 16 := (x 0).isLt
  show (k2_pay5 k x).toNat < 32784
  rw [ahead_val]; omega

theorem readK (f : S32784.Idx → BitVec 32) : View.readAt (Elt F) q6V.view (LoadRect.whole S32784) f = f :=
  Memref.readAt_whole (Elt F) cc2_scratch0 f
theorem readM (f : S16384.Idx → BitVec 32) : View.readAt (Elt F) q8V.view (LoadRect.whole S16384) f = f :=
  Memref.readAt_whole (Elt F) cc2_scratch2 f
theorem readP (f : S16384.Idx → Elt F .f32) : View.readAt (Elt F) q9V.view (LoadRect.whole S16384) f = f :=
  Memref.readAt_whole (Elt F) cc2_scratch3 f

theorem wid_lt32 : wid L < 32 := by
  have h1 : (L 1).val < 16 := (L 1).isLt
  have h0 : (L 0).val < 2 := (L 0).isLt
  unfold wid; omega

/-- The keys a trip loads. -/
theorem cur_eq (sk : S1048576.Idx → BitVec 32) (f6 : S32784.Idx → BitVec 32) (h6 : HoldsK sk (wid L) f6) (k : Fin k2_t2_loop.trips) :
    View.readAt (Elt F) q6V.view (Rect.unit (s := S32784) (k2_off4 k) S16.size (k2_off4_inb k)).toLoadRect f6 = curV sk (wid L) k.val := by
  have hk : k.val < 2048 := lt_of_lt_of_le k.isLt k2_t2_abs.2.1
  have hw := wid_lt32 L
  funext x
  have hx : (x 0).val < 16 := (x 0).isLt
  have e : ((Rect.unit (s := S32784) (k2_off4 k) S16.size (k2_off4_inb k)).emb x 0).val = 16 * k.val + (x 0).val := by
    show k2_off4 k 0 + 1 * (x 0).val = _
    have e0 : k2_off4 k 0 = 16 * k.val := congrFun (k2_off4_eq k) 0
    omega
  show f6 ((Rect.unit (s := S32784) (k2_off4 k) S16.size (k2_off4_inb k)).emb x) = _
  rw [h6 _ (by rw [e]; omega), e]
  unfold keyX curV
  rw [if_pos (by omega), Nat.add_assoc]

/-- The keys a trip looks ahead to. -/
theorem nxt_eq (sk : S1048576.Idx → BitVec 32) (f6 : S32784.Idx → BitVec 32) (h6 : HoldsK sk (wid L) f6) (k : Fin k2_t2_loop.trips)
    (ha : ∀ a x, ((![k2_pay5 k] : Fin 1 → IVec S16 32) a x).toNat < S32784.size a) :
    loadIdx (F := F) (e := .i32) f6 ![k2_pay5 k] ha = nxtV sk (wid L) k.val := by
  have hk : k.val < 2048 := lt_of_lt_of_le k.isLt k2_t2_abs.2.1
  funext x
  have hx : (x 0).val < 16 := (x 0).isLt
  show f6 (idxAt (s := S32784) _ ha x) = _
  have e : ((idxAt (s := S32784) (![k2_pay5 k] : Fin 1 → IVec S16 32) ha x) 0).val = 16 * k.val + 1 + (x 0).val := ahead_val k x
  rw [h6 _ (by rw [e]; omega), e]
  unfold keyX nxtV nextKeyAt
  rw [show 32768 * wid L + (16 * k.val + 1 + (x 0).val) = 32768 * wid L + 16 * k.val + (x 0).val + 1 by omega]

/-- The updates a trip loads. -/
theorem val_eq (sv : S1048576.Idx → Elt F .f32) (f7 : S32768.Idx → Elt F .f32) (h7 : HoldsV sv (wid L) f7) (k : Fin k2_t2_loop.trips) :
    View.readAt (Elt F) q7V.view (Rect.unit (s := S32768) (k2_off5 k) S16.size (k2_off5_inb k)).toLoadRect f7 = valV sv (wid L) k.val := by
  funext x
  have e : ((Rect.unit (s := S32768) (k2_off5 k) S16.size (k2_off5_inb k)).emb x 0).val = 16 * k.val + (x 0).val := by
    show k2_off5 k 0 + 1 * (x 0).val = _
    have e0 : k2_off5 k 0 = 16 * k.val := congrFun (k2_off5_eq k) 0
    omega
  show f7 ((Rect.unit (s := S32768) (k2_off5 k) S16.size (k2_off5_inb k)).emb x) = _
  rw [h7 _, e]
  unfold valV
  rw [Nat.add_assoc]

theorem chk2_cur {sk : S1048576.Idx → BitVec 32} (hs : KeysOk sk) (w t : ℕ) : k2_chk2 (curV sk w t) :=
  ⟨curV_inb hs w t, curV_inb hs w t⟩

theorem writes8_whole (f w : S16384.Idx → BitVec 32) : q8V.view.writes (Elt F) f [⟨Rect.whole S16384, w⟩] = w :=
  Memref.write_access_whole_univ (Elt F) cc2_scratch2 f w
theorem writes9_whole (f w : S16384.Idx → Elt F .f32) : q9V.view.writes (Elt F) f [⟨Rect.whole S16384, w⟩] = w :=
  Memref.write_access_whole_univ (Elt F) cc2_scratch3 f w

theorem mark_step {sk : S1048576.Idx → BitVec 32} (hs : KeysOk sk) (w t : ℕ)
    (h : ∀ a x, ((![curV sk w t] : Fin 1 → IVec S16 32) a x).toNat < S16384.size a) :
    storeIdx (F := F) (e := .i32) (s := S16384) (d := ![16]) (markPlane sk w t) ![curV sk w t] k2_pay4 (k2_pay6 (F := F) (curV sk w t) (nxtV sk w t)) false h
      = markPlane sk w (t + 1) := by
  rw [markPlane, dif_pos h]; rfl
theorem val_step {sk : S1048576.Idx → BitVec 32} (sv : S1048576.Idx → Elt F .f32) (hs : KeysOk sk) (w t : ℕ)
    (h : ∀ a x, ((![curV sk w t] : Fin 1 → IVec S16 32) a x).toNat < S16384.size a) :
    storeIdx (F := F) (e := .f32) (s := S16384) (d := ![16]) (valPlane sk sv w t) ![curV sk w t] (valV sv w t) (k2_pay6 (F := F) (curV sk w t) (nxtV sk w t)) false h
      = valPlane sk sv w (t + 1) := by
  rw [valPlane, dif_pos h]; rfl

/-- One trip of the scan. -/
theorem tripS (sk : S1048576.Idx → BitVec 32) (sv : S1048576.Idx → Elt F .f32) (hs : KeysOk sk) (k : Fin k2_t2_loop.trips) (a : BitVec 32) :
    invS d L sk sv k.val a ⊢ wp frame (wpE (defs₀ (F := F)) 𝒱₀ (VT d L) none) Set.univ
      (k2_t2_body L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3 k a)
      fun b => invS d L sk sv (k.val + 1) b := by
  generalize he : k2_t2_body (F := F) L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3 k a = e
  unfold k2_t2_body at he
  simp only [Prog.lift, Prog.bind_op, Prog.bind_ret, Prog.pure_eq_ret, Prog.bind_assoc, SparseCore.vectorLoadIdx, SparseCore.vectorStoreIdx] at he
  subst he
  unfold invS
  iintro ⟨⟨%f6, %h6, H6⟩, ⟨%f7, %h7, H7⟩, ⟨%f8, %h8, H8⟩, ⟨%f9, %h9, H9⟩⟩
  have hcur := cur_eq (F := F) L sk f6 h6 k
  have hchk : k2_chk2 (View.readAt (Elt F) q6V.view (Rect.unit (s := S32784) (k2_off4 k) S16.size (k2_off4_inb k)).toLoadRect f6) := by
    rw [hcur]; exact chk2_cur hs _ _
  have hchk1 := chk1_ahead k
  have hval := val_eq L sv f7 h7 k
  sl_exec
  rw [wp_assume_of _ _ _ _ (chk2_cur hs (wid L) k.val), wp_assume_of _ _ _ _ hchk1]
  sl_exec
  sl_step
  isplitl [H6]; · iexists f6; isplitr; · ipureintro; exact h6
                  iexact H6
  isplitl [H7]; · iexists f7; isplitr; · ipureintro; exact h7
                  iexact H7
  isplitl [H8]
  · iexists _; isplitr
    rotate_left
    · iexact H8
    · ipureintro
      rw [readK, readM, writes8_whole, nxt_eq (F := F) L sk f6 h6 k, h8]
      exact mark_step (F := F) hs _ _ _
  · iexists _; isplitr
    rotate_left
    · iexact H9
    · ipureintro
      rw [readK, readP, writes9_whole, nxt_eq (F := F) L sk f6 h6 k, h9]
      exact val_step (F := F) sv hs _ _ _

/-- The fetched chunk of keys, word by word. -/
theorem skRead (sk : S1048576.Idx → BitVec 32) {off : Fin 1 → ℕ} (n : Fin 1 → ℕ) (inb : ∀ a, off a + n a ≤ S1048576.size a) (x : (⟨1, n⟩ : Shape).Idx) :
    (skV.slice (Rect.unit (s := S1048576) off n inb) (fun _ => rfl)).view.read (Elt F) sk x = keyAt sk (off 0 + (x 0).val) := by
  show sk ((Rect.unit (s := S1048576) off n inb).emb x) = _
  unfold keyAt
  congr 1
  refine eq_ofN _ _ _ _ fun a => ?_
  obtain rfl : a = 0 := Subsingleton.elim _ _
  show off 0 + 1 * (x 0).val = off 0 + (x 0).val
  omega

/-- The fetch of the updates. -/
theorem holdsV_dma (sv : S1048576.Idx → Elt F .f32) :
    HoldsV sv (wid L) ((svV.slice (Rect.unit (s := S1048576) (k2_off1 L) S32768.size (k2_off1_inb L)) (fun _ => rfl)).view.read (Elt F) sv) := by
  intro x
  show sv ((Rect.unit (s := S1048576) (k2_off1 L) S32768.size (k2_off1_inb L)).emb x) = _
  congr 1
  refine eq_ofN _ _ _ _ fun a => ?_
  obtain rfl : a = 0 := Subsingleton.elim _ _
  show k2_off1 L 0 + 1 * (x 0).val = 32768 * wid L + (x 0).val
  have e0 : k2_off1 L 0 = 65536 * (L 1).val + 32768 * (L 0).val := congrFun (k2_off1_eq L) 0
  unfold wid
  omega

/-- The chunk of keys fetched, with `n` more words written after it. -/
theorem holdsK_writes (sk : S1048576.Idx → BitVec 32) (g6 : S32784.Idx → BitVec 32) (n : Fin 1 → ℕ) (hn : 0 < n 0)
    (inb : ∀ a, (![32768] : Fin 1 → ℕ) a + n a ≤ S32784.size a) (w' : (⟨1, n⟩ : Shape).Idx → BitVec 32)
    (w : S32768.Idx → BitVec 32) (hw : w = (skV.slice (Rect.unit (s := S1048576) (k2_off1 L) S32768.size (k2_off1_inb L)) (fun _ => rfl)).view.read (Elt F) sk)
    (hw' : ∀ x : (⟨1, n⟩ : Shape).Idx, (x 0).val = 0 → w' x = keyX sk (32768 * wid L + 32768)) :
    HoldsK sk (wid L) (q6V.view.writes (Elt F) g6
      [⟨Rect.unit (s := S32784) ![32768] n inb, w'⟩, ⟨Rect.unit (s := S32784) ![0] S32768.size inb_S32784_S32768_0, w⟩]) := by
  have hwid := wid_lt32 L
  have e0 : k2_off1 L 0 = 65536 * (L 1).val + 32768 * (L 0).val := congrFun (k2_off1_eq L) 0
  intro y hy
  by_cases h : (y 0).val < 32768
  · refine (View.read_writes_cons_miss_of_axis (Val := Elt F) q6V.view g6 ⟨Rect.unit (s := S32784) ![32768] n inb, w'⟩ _ y 0 32768 (n 0)
      rfl rfl rfl (.inl h)).trans ?_
    refine (View.read_writes_cons_hit_of_coords (Val := Elt F) q6V.view g6 (Rect.unit (s := S32784) ![0] S32768.size inb_S32784_S32768_0) w [] (fun a => ⟨(y 0).val, by obtain rfl : a = 0 := Subsingleton.elim _ _; exact h⟩) y ?_).trans ?_
    · intro a
      obtain rfl : a = 0 := Subsingleton.elim _ _
      show (y 0).val = 0 + 1 * (y 0).val
      omega
    · subst hw
      refine (skRead (F := F) sk _ _ _).trans ?_
      unfold keyX
      rw [if_pos (by omega), e0]
      unfold wid
      show keyAt sk (_ + (y 0).val) = _
      congr 1; omega
  · have hy' : (y 0).val = 32768 := by omega
    refine (View.read_writes_cons_hit_of_coords (Val := Elt F) q6V.view g6 (Rect.unit (s := S32784) ![32768] n inb) w' _ (fun a => ⟨0, by obtain rfl : a = 0 := Subsingleton.elim _ _; exact hn⟩) y ?_).trans ?_
    · intro a
      obtain rfl : a = 0 := Subsingleton.elim _ _
      show (y 0).val = 32768 + 1 * 0
      omega
    · rw [hy']; exact hw' _ rfl

/-- Not the last subcore, it looks ahead into the next chunk. -/
theorem ahead_of_cond (sk : S1048576.Idx → BitVec 32) (h1 : k2_cond1 L = 1#1) (w' : S8.Idx → BitVec 32)
    (hw' : w' = (skV.slice (Rect.unit (s := S1048576) (k2_off2 L) S8.size (k2_off2_inb L h1)) (fun _ => rfl)).view.read (Elt F) sk)
    (x : S8.Idx) (hx : (x 0).val = 0) : w' x = keyX sk (32768 * wid L + 32768) := by
  have e0 : k2_off2 L 0 = 65536 * (L 1).val + 32768 * (L 0).val + 32768 := congrFun (k2_off2_eq L) 0
  have hb := k2_off2_inb L h1 0
  have hb' : k2_off2 L 0 + 8 ≤ 1048576 := hb
  subst hw'
  refine (skRead (F := F) sk _ _ _).trans ?_
  unfold keyX wid
  rw [if_pos (by omega), e0, hx]
  exact congrArg (keyAt sk) (by omega)

/-- The two branches' conditions are each other's negation. -/
theorem cond_last : ∀ L : grid2.Coords, k2_cond1 L = 1#1 →
    ¬ Scalar.cmpi .ne (Scalar.extui (Scalar.cmpi .eq (Scalar.addi (Scalar.muli (BitVec.ofNat 32 (L 1).val) 2#32) (BitVec.ofNat 32 (L 0).val)) 31#32)) (0#32 : BitVec 32) = 1#1 := by
  decide +kernel
theorem cond_last' : ∀ L : grid2.Coords, ¬ k2_cond1 L = 1#1 →
    Scalar.cmpi .ne (Scalar.extui (Scalar.cmpi .eq (Scalar.addi (Scalar.muli (BitVec.ofNat 32 (L 1).val) 2#32) (BitVec.ofNat 32 (L 0).val)) 31#32)) (0#32 : BitVec 32) = 1#1 := by
  decide +kernel
theorem wid_last : ∀ L : grid2.Coords, ¬ k2_cond1 L = 1#1 → wid L = 31 := by
  decide +kernel

/-- The words the last subcore puts after its chunk. -/
theorem pay_last (x : S16.Idx) : k2_pay1 x = -2#32 := by
  show (4294967294#32 : BitVec 32) = -2#32
  decide

theorem keyX_last (sk : S1048576.Idx → BitVec 32) {w : ℕ} (h : w = 31) : keyX sk (32768 * w + 32768) = -2#32 := by
  unfold keyX
  exact if_neg (by omega)

/-- A row written out whole reads as what was written. -/
theorem mk_written (f0 : Buf (Elt F) (mkLoc d)) (w : S16384.Idx → BitVec 32) (f : S16384.Idx → BitVec 32) (hw : w = f) (x : S16384.Idx) :
    (mkRow L).view.read (Elt F) ((mkRow L).view.writes (Elt F) f0 [⟨Rect.whole S16384, w⟩]) x = f x := by
  subst hw
  have e := View.read_writes_cons_emb (Val := Elt F) (mkRow L).view f0 (Rect.whole S16384) w [] x
  rw [Rect.emb_whole_apply] at e
  exact e
theorem vl_written (f0 : Buf (Elt F) (vlLoc d)) (w : S16384.Idx → Elt F .f32) (f : S16384.Idx → Elt F .f32) (hw : w = f) (x : S16384.Idx) :
    (vlRow L).view.read (Elt F) ((vlRow L).view.writes (Elt F) f0 [⟨Rect.whole S16384, w⟩]) x = f x := by
  subst hw
  have e := View.read_writes_cons_emb (Val := Elt F) (vlRow L).view f0 (Rect.whole S16384) w [] x
  rw [Rect.emb_whole_apply] at e
  exact e

abbrev cellV : GSem nD τ sig := (VT d L, .dma cc2_scratch4.sem)
abbrev cellS0 : GSem nD τ sig := (VT d L, .dma cc2_scoped0.sem)
abbrev cellS1 : GSem nD τ sig := (VT d L, .dma cc2_scoped1.sem)
abbrev cellS2 : GSem nD τ sig := (VT d L, .dma cc2_scoped2.sem)
abbrev cellS3 : GSem nD τ sig := (VT d L, .dma cc2_scoped3.sem)
abbrev cells1 : sProp 𝕄 :=
  iprop(semVal (cellV d L) 0 ∗ semVal (cellS0 d L) 0 ∗ semVal (cellS1 d L) 0 ∗ semVal (cellS2 d L) 0 ∗ semVal (cellS3 d L) 0)

/-- The body of the second call on one vector subcore, from the pieces it is dealt. -/
theorem scatter_run (sk : S1048576.Idx → BitVec 32) (sv : S1048576.Idx → Elt F .f32) (hs : KeysOk sk)
    (O : CellTallies nD τ sig (HIx 2)) (W : Waits sig (HIx 2)) (q : PosShare TreeShare)
    (m0 : Buf (Elt F) (mkLoc d)) (l0 : Buf (Elt F) (vlLoc d))
    (g6 : Buf (Elt F) ((q6V).view.loc (VT d L))) (g7 : Buf (Elt F) ((q7V).view.loc (VT d L)))
    (g8 : Buf (Elt F) ((q8V).view.loc (VT d L))) (g9 : Buf (Elt F) ((q9V).view.loc (VT d L))) :
    (iprop(Transfers.MayWaits (VT d L) (none : HIx 2) O
        ∗ ((skV).view.loc (VT d L) ↦{q} sk)
        ∗ ((svV).view.loc (VT d L) ↦{q} sv)
        ∗ ((mkRow L).view.loc (VT d L) ↦[(mkRow L).view.set]{fullShare} m0)
        ∗ ((vlRow L).view.loc (VT d L) ↦[(vlRow L).view.set]{fullShare} l0)
        ∗ ((q6V).view.loc (VT d L) ↦{fullShare} g6)
        ∗ ((q7V).view.loc (VT d L) ↦{fullShare} g7)
        ∗ ((q8V).view.loc (VT d L) ↦{fullShare} g8)
        ∗ ((q9V).view.loc (VT d L) ↦{fullShare} g9)
        ∗ cells1 d L
        ∗ owes (VT d L) O W) : sProp 𝕄)
      ⊢ wp frame (wpE (defs₀ (F := F)) 𝒱₀ (VT d L) none) Set.univ
          (cc2__sc_body L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3)
          fun _ => iprop(((skV).view.loc (VT d L) ↦{q} sk)
            ∗ ((svV).view.loc (VT d L) ↦{q} sv)
            ∗ (∃ f, ⌜∀ x, (mkRow L).view.read (Elt F) f x = markPlane sk (wid L) 2048 x⌝ ∗ (mkRow L).view.loc (VT d L) ↦[(mkRow L).view.set]{fullShare} f)
            ∗ (∃ f, ⌜∀ x, (vlRow L).view.read (Elt F) f x = valPlane sk sv (wid L) 2048 x⌝ ∗ (vlRow L).view.loc (VT d L) ↦[(vlRow L).view.set]{fullShare} f)
            ∗ (∃ g, (q6V).view.loc (VT d L) ↦{fullShare} g)
            ∗ (∃ g, (q7V).view.loc (VT d L) ↦{fullShare} g)
            ∗ (∃ g, (q8V).view.loc (VT d L) ↦{fullShare} g)
            ∗ (∃ g, (q9V).view.loc (VT d L) ↦{fullShare} g)
            ∗ cells1 d L
            ∗ ∃ W', ⌜∀ p ∈ W', p ∈ W ∨ p.2 = none⌝ ∗ owes (VT d L) O W') := by
  iintro ⟨#Hmw, Hsk, Hsv, Hm, Hl, H6, H7, H8, H9, ⟨HcV, Hc0, Hc1, Hc2, Hc3⟩, HO⟩
  generalize he : cc2__sc_body (F := F) L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3 = e
  rw [cc2__sc_body_eq_skeleton] at he
  unfold cc2__sc_body_skel at he
  rw [k2_part1_eq_skeleton] at he
  unfold k2_part1_skel at he
  simp only [Prog.lift, Prog.bind_op, Prog.bind_ret, Prog.pure_eq_ret, Prog.bind_assoc] at he
  by_cases h1 : k2_cond1 L = 1#1
  · have h2 := cond_last L h1
    simp only [dif_pos h1, dif_neg h2, Prog.lift, Prog.bind_op, Prog.bind_ret, Prog.pure_eq_ret, Prog.bind_assoc] at he
    subst he
    sl_exec
    sl_for (invZ (F := F) d L) $$ [H8 H9]
    case region => intro k a; exact tripZ d L k a
    · unfold invZ
      isplitl [H8]; · iexists _; isplitr
                      rotate_left
                      · iexact H8
                      · ipureintro; exact fun x hx => absurd hx (Nat.not_lt_zero _)
      iexists _; isplitr
      rotate_left
      · iexact H9
      · ipureintro; exact fun x hx => absurd hx (Nat.not_lt_zero _)
    iintro %_ HI
    unfold invZ
    icases HI with ⟨⟨%f8, %h8, H8⟩, ⟨%f9, %h9, H9⟩⟩
    have e8 : f8 = markPlane sk (wid L) 0 := funext fun x => h8 x (by
      have hx : (x 0).val < 16384 := (x 0).isLt
      have ht : Scf.trips k2_t1_loop.lb k2_t1_loop.ub k2_t1_loop.st = 1024 := trips3
      omega)
    have e9 : f9 = valPlane sk sv (wid L) 0 := funext fun x => h9 x (by
      have hx : (x 0).val < 16384 := (x 0).isLt
      have ht : Scf.trips k2_t1_loop.lb k2_t1_loop.ub k2_t1_loop.st = 1024 := trips3
      omega)
    sl_exec
    sl_for (invS d L sk sv) $$ [H6 H7 H8 H9]
    case region => intro k a; exact tripS d L sk sv hs k a
    · unfold invS
      isplitl [H6]
      · iexists _; isplitr
        rotate_left
        · iexact H6
        · ipureintro
          exact holdsK_writes (F := F) L sk g6 S8.size (by decide) _ _ _ rfl (ahead_of_cond (F := F) L sk h1 _ rfl)
      isplitl [H7]
      · iexists _; isplitr
        rotate_left
        · iexact H7
        · ipureintro; rw [View.write_whole_univ]; exact holdsV_dma L sv
      isplitl [H8]; · iexists _; isplitr
                      rotate_left
                      · iexact H8
                      · ipureintro; exact e8
      iexists _; isplitr
      rotate_left
      · iexact H9
      · ipureintro; exact e9
    iintro %_ HI
    unfold invS
    icases HI with ⟨⟨%i6, %_, H6⟩, ⟨%i7, %_, H7⟩, ⟨%i8, %j8, H8⟩, ⟨%i9, %j9, H9⟩⟩
    have ht : Scf.trips k2_t2_loop.lb k2_t2_loop.ub k2_t2_loop.st = 2048 := trips4
    rw [ht] at j8 j9
    sl_exec
    sl_step
    isplitl [Hsk]; · iexact Hsk
    isplitl [Hsv]; · iexact Hsv
    isplitl [Hm]
    · iexists _; isplitr
      rotate_left
      · iexact Hm
      · ipureintro; exact mk_written d L _ _ _ j8
    isplitl [Hl]
    · iexists _; isplitr
      rotate_left
      · iexact Hl
      · ipureintro; exact vl_written d L _ _ _ j9
    isplitl [H6]; · iexists _; iexact H6
    isplitl [H7]; · iexists _; iexact H7
    isplitl [H8]; · iexists _; iexact H8
    isplitl [H9]; · iexists _; iexact H9
    isplitl [HcV Hc0 Hc1 Hc2 Hc3]
    · isplitl [HcV]; · iexact HcV
      isplitl [Hc0]; · iexact Hc0
      isplitl [Hc1]; · iexact Hc1
      isplitl [Hc2]; · iexact Hc2
      iexact Hc3
    iexists _; isplitr
    rotate_left
    · iexact HO
    · ipureintro
      intro p hp
      simp only [Finset.mem_insert] at hp
      rcases hp with rfl | rfl | rfl | rfl | rfl | hp
      all_goals first | exact .inr rfl | exact .inl hp
  · have h2 := cond_last' L h1
    simp only [dif_neg h1, dif_pos h2, Prog.lift, Prog.bind_op, Prog.bind_ret, Prog.pure_eq_ret, Prog.bind_assoc] at he
    subst he
    sl_exec
    sl_for (invZ (F := F) d L) $$ [H8 H9]
    case region => intro k a; exact tripZ d L k a
    · unfold invZ
      isplitl [H8]; · iexists _; isplitr
                      rotate_left
                      · iexact H8
                      · ipureintro; exact fun x hx => absurd hx (Nat.not_lt_zero _)
      iexists _; isplitr
      rotate_left
      · iexact H9
      · ipureintro; exact fun x hx => absurd hx (Nat.not_lt_zero _)
    iintro %_ HI
    unfold invZ
    icases HI with ⟨⟨%f8, %h8, H8⟩, ⟨%f9, %h9, H9⟩⟩
    have e8 : f8 = markPlane sk (wid L) 0 := funext fun x => h8 x (by
      have hx : (x 0).val < 16384 := (x 0).isLt
      have ht : Scf.trips k2_t1_loop.lb k2_t1_loop.ub k2_t1_loop.st = 1024 := trips3
      omega)
    have e9 : f9 = valPlane sk sv (wid L) 0 := funext fun x => h9 x (by
      have hx : (x 0).val < 16384 := (x 0).isLt
      have ht : Scf.trips k2_t1_loop.lb k2_t1_loop.ub k2_t1_loop.st = 1024 := trips3
      omega)
    sl_exec
    sl_for (invS d L sk sv) $$ [H6 H7 H8 H9]
    case region => intro k a; exact tripS d L sk sv hs k a
    · unfold invS
      isplitl [H6]
      · iexists _; isplitr
        rotate_left
        · iexact H6
        · ipureintro
          refine holdsK_writes (F := F) L sk _ S16.size (by decide) _ _ _ ?_ ?_
          · rfl
          · exact (fun x _ => (pay_last x).trans (keyX_last sk (wid_last L h1)).symm)
      isplitl [H7]
      · iexists _; isplitr
        rotate_left
        · iexact H7
        · ipureintro; rw [View.write_whole_univ]; exact holdsV_dma L sv
      isplitl [H8]; · iexists _; isplitr
                      rotate_left
                      · iexact H8
                      · ipureintro; exact e8
      iexists _; isplitr
      rotate_left
      · iexact H9
      · ipureintro; exact e9
    iintro %_ HI
    unfold invS
    icases HI with ⟨⟨%i6, %_, H6⟩, ⟨%i7, %_, H7⟩, ⟨%i8, %j8, H8⟩, ⟨%i9, %j9, H9⟩⟩
    have ht : Scf.trips k2_t2_loop.lb k2_t2_loop.ub k2_t2_loop.st = 2048 := trips4
    rw [ht] at j8 j9
    sl_exec
    sl_step
    isplitl [Hsk]; · iexact Hsk
    isplitl [Hsv]; · iexact Hsv
    isplitl [Hm]
    · iexists _; isplitr
      rotate_left
      · iexact Hm
      · ipureintro; exact mk_written d L _ _ _ j8
    isplitl [Hl]
    · iexists _; isplitr
      rotate_left
      · iexact Hl
      · ipureintro; exact vl_written d L _ _ _ j9
    isplitl [H6]; · iexists _; iexact H6
    isplitl [H7]; · iexists _; iexact H7
    isplitl [H8]; · iexists _; iexact H8
    isplitl [H9]; · iexists _; iexact H9
    isplitl [HcV Hc0 Hc1 Hc2 Hc3]
    · isplitl [HcV]; · iexact HcV
      isplitl [Hc0]; · iexact Hc0
      isplitl [Hc1]; · iexact Hc1
      isplitl [Hc2]; · iexact Hc2
      iexact Hc3
    iexists _; isplitr
    rotate_left
    · iexact HO
    · ipureintro
      intro p hp
      simp only [Finset.mem_insert] at hp
      rcases hp with rfl | rfl | rfl | rfl | hp
      all_goals first | exact .inr rfl | exact .inl hp

end Cert.Proof.Sc

end
-- ==== Proof.Tiles.lean ====
/-
  The two SparseCore calls on their vector subcores: what each subcore is dealt and hands back, the launch theorem's
  obligation of each call, and how the whole arrays split into the subcores' pieces.
-/
module

public import proofs.«01_k».proof.Proof.Setup
public import proofs.«01_k».proof.Proof.Prelude
public import proofs.«01_k».proof.Proof.Scatter

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

/-! ## The pieces -/

/-- The mark plane as an array: row `w` is subcore `w`'s. -/
def markArr (sk : S1048576.Idx → BitVec 32) : S32x16384.Idx → BitVec 32 := fun i =>
  markPlane sk (i 0).val 2048 (ofN S16384 pos_S16384 ![(i 1).val])
/-- The value plane as an array. -/
def valArr [FloatOps F] (sk : S1048576.Idx → BitVec 32) (sv : S1048576.Idx → Elt F .f32) : S32x16384.Idx → Elt F .f32 := fun i =>
  valPlane sk sv (i 0).val 2048 (ofN S16384 pos_S16384 ![(i 1).val])

/-- What the two calls read and the contents of what they write when they begin, per device. -/
structure Con (F : FTy → Type) where
  si : Dev nD → S4x2x262144.Idx → BitVec 32
  up : Dev nD → S4x262144.Idx → Elt F .f32
  sk : Dev nD → S1048576.Idx → BitVec 32
  sv : Dev nD → S1048576.Idx → Elt F .f32
  ky : Dev nD → S1048576.Idx → BitVec 32
  ul : Dev nD → S1048576.Idx → Elt F .f32
  mr : Dev nD → S32x16384.Idx → BitVec 32
  vr : Dev nD → S32x16384.Idx → Elt F .f32

section Pieces

variable [FloatOps F] (C : Con F) (d : Dev nD)

/-- A subcore's two blocks of the keys and of the linearised updates. -/
abbrev blks (L : grid0.Coords) (k : S1048576.Idx → BitVec 32) (u : S1048576.Idx → Elt F .f32) : sProp 𝕄 :=
  iprop(((kyLoc d ↦[(kyBlk L 0).view.set]{fullShare} k) ∗ (kyLoc d ↦[(kyBlk L 1).view.set]{fullShare} k))
    ∗ (ulLoc d ↦[(ulBlk L 0).view.set]{fullShare} u) ∗ (ulLoc d ↦[(ulBlk L 1).view.set]{fullShare} u))
/-- A subcore's shares of the first call's operands. -/
abbrev ins0 (L : grid0.Coords) : sProp 𝕄 := iprop((siLoc d ↦{shT L} C.si d) ∗ (upLoc d ↦{shT L} C.up d))
/-- A subcore's rows of the planes. -/
abbrev rows (L : grid0.Coords) (k : S32x16384.Idx → BitVec 32) (u : S32x16384.Idx → Elt F .f32) : sProp 𝕄 :=
  iprop((mkLoc d ↦[(mkRow L).view.set]{fullShare} k) ∗ (vlLoc d ↦[(vlRow L).view.set]{fullShare} u))
/-- A subcore's shares of the second call's operands. -/
abbrev ins1 (L : grid0.Coords) : sProp 𝕄 := iprop((skLoc d ↦{shT L} C.sk d) ∗ (svLoc d ↦{shT L} C.sv d))

abbrev go0 (L : grid0.Coords) : sProp 𝕄 := iprop(ins0 C d L ∗ blks d L (C.ky d) (C.ul d))
abbrev td0 (L : grid0.Coords) : sProp 𝕄 := iprop(ins0 C d L ∗ blks d L (keysOf (C.si d)) (linOf (C.up d)))
abbrev go1 (L : grid0.Coords) : sProp 𝕄 := iprop(ins1 C d L ∗ rows d L (C.mr d) (C.vr d))
abbrev td1 (L : grid0.Coords) : sProp 𝕄 := iprop(ins1 C d L ∗ rows d L (markArr (C.sk d)) (valArr (C.sk d) (C.sv d)))

end Pieces

variable [FloatOps F] (C : Con F)

abbrev goP (q : Fin 2) (d : Dev nD) (c : Fin 2) (i : Fin 16) : sProp 𝕄 :=
  match q with
  | 0 => go0 C d (coordsV c i)
  | 1 => go1 C d (coordsV c i)
abbrev tdP (q : Fin 2) (d : Dev nD) (c : Fin 2) (i : Fin 16) : sProp 𝕄 :=
  match q with
  | 0 => td0 C d (coordsV c i)
  | 1 => td1 C d (coordsV c i)

instance goP_storable (q d c i) : BI.Storable (upEmb : UEmb _ 𝕄) (goP C q d c i) :=
  match q with
  | 0 => (inferInstance : BI.Storable (upEmb : UEmb _ 𝕄) (go0 C d (coordsV c i)))
  | 1 => (inferInstance : BI.Storable (upEmb : UEmb _ 𝕄) (go1 C d (coordsV c i)))
instance tdP_storable (q d c i) : BI.Storable (upEmb : UEmb _ 𝕄) (tdP C q d c i) :=
  match q with
  | 0 => (inferInstance : BI.Storable (upEmb : UEmb _ 𝕄) (td0 C d (coordsV c i)))
  | 1 => (inferInstance : BI.Storable (upEmb : UEmb _ 𝕄) (td1 C d (coordsV c i)))

theorem nCoreEq (q : Fin 2) : (K (F := F)).nCore q = 2 := match q with | 0 => rfl | 1 => rfl
theorem nSubEq (q : Fin 2) : (K (F := F)).nSub q = 16 := match q with | 0 => rfl | 1 => rfl

/-- What the two calls carry: to a core and back, its subcores' pieces; to a subcore and back, its own. -/
def P : (K (F := F)).Pay (nD := nD) (Val := Elt F) (Name := ℕ) (U := UU) where
  st := fun q d c => bigSep Finset.univ fun i : Fin ((K (F := F)).nSub q) => goP C q d (Fin.cast (nCoreEq q) c) (Fin.cast (nSubEq q) i)
  dn := fun q d c => bigSep Finset.univ fun i : Fin ((K (F := F)).nSub q) => tdP C q d (Fin.cast (nCoreEq q) c) (Fin.cast (nSubEq q) i)
  go := fun q d c i => goP C q d (Fin.cast (nCoreEq q) c) (Fin.cast (nSubEq q) i)
  td := fun q d c i => tdP C q d (Fin.cast (nCoreEq q) c) (Fin.cast (nSubEq q) i)
  x := fun _ _ => iprop(emp)

instance P_storable : (P C).IsStorable where
  st q d c := (inferInstance : BI.Storable (upEmb : UEmb _ 𝕄) (bigSep Finset.univ fun i : Fin ((K (F := F)).nSub q) => goP C q d (Fin.cast (nCoreEq q) c) (Fin.cast (nSubEq q) i)))
  dn q d c := (inferInstance : BI.Storable (upEmb : UEmb _ 𝕄) (bigSep Finset.univ fun i : Fin ((K (F := F)).nSub q) => tdP C q d (Fin.cast (nCoreEq q) c) (Fin.cast (nSubEq q) i)))
  go q d c i := goP_storable C q d _ _
  td q d c i := tdP_storable C q d _ _

theorem vecSplit (q : Fin 2) : (K (F := F)).VecSplit' (P C) q := by
  intro d c
  change (bigSep Finset.univ fun i => (P C).go q d c i) ⊢ |={Set.univ}=> iprop((bigSep Finset.univ fun i => (P C).go q d c i)
    ∗ ((bigSep Finset.univ fun i => (P C).td q d c i) -∗ (bigSep Finset.univ fun i => (P C).td q d c i)))
  iintro H; imodintro
  isplitl [H]; · iexact H
  iintro H; iexact H

/-! ## What a subcore owns -/

section Own

variable (d : Dev nD) (L : grid0.Coords)

/-- The first call's transfer semaphores, and the second's. -/
abbrev sem0 : Fin 6 → DmaSem sig := ![cc0_scratch4.sem, cc0_scratch5.sem, cc0_scoped0.sem, cc0_scoped1.sem, cc0_scoped2.sem, cc0_scoped3.sem]
abbrev sem1 : Fin 5 → DmaSem sig := ![cc2_scratch4.sem, cc2_scoped0.sem, cc2_scoped1.sem, cc2_scoped2.sem, cc2_scoped3.sem]

omit [FloatOps F] in
theorem dma_mem (s : DmaSem sig) : ((VT d L, .dma s) : GSem nD τ sig) ∈ ownCells (VT d L) :=
  mem_ownCells.mpr ⟨rfl, (show ∀ s : DmaSem sig, (SemLoc.dma s : SemLoc sig).isScoped .scVector = true by decide) s⟩

omit [FloatOps F] in
theorem ownSems_split {n : ℕ} (s : Fin n → DmaSem sig) (hs : Function.Injective s) :
    (ownSems0 (VT d L) : sProp 𝕄)
      = iprop((bigSep Finset.univ fun k : Fin n => semVal ((VT d L, .dma (s k)) : GSem nD τ sig) 0)
          ∗ bigSep ((ownCells (VT d L)) \ Finset.univ.image fun k : Fin n => ((VT d L, .dma (s k)) : GSem nD τ sig)) fun g => semVal g 0) := by
  unfold SparseCore.Cfg.ownSems0
  rw [SparseCore.bigSep_sdiff_split' (t := Finset.univ.image fun k : Fin n => ((VT d L, .dma (s k)) : GSem nD τ sig))
      (Finset.image_subset_iff.mpr fun k _ => dma_mem d L (s k)),
    SparseCore.bigSep_image_of_injOn (fun a _ b _ h => by
      have := congrArg (fun g : GSem nD τ sig => g.2) h
      simp only [SemLoc.dma.injEq] at this; exact hs this)]

omit [FloatOps F] in
theorem ownSems_call0 : (bigSep Finset.univ fun k : Fin 6 => semVal ((VT d L, .dma (sem0 k)) : GSem nD τ sig) 0 : sProp 𝕄) = cells0 d L := by
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem ownSems_call1 : (bigSep Finset.univ fun k : Fin 5 => semVal ((VT d L, .dma (sem1 k)) : GSem nD τ sig) 0 : sProp 𝕄) = cells1 d L := by
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

omit [FloatOps F] in
/-- Four distinct buffers of a subcore's own, taken out of what it owns. -/
theorem ownBufs_four (b0 b1 b2 b3 : Ref sig .scVector)
    (h0 : ((Proc.scVector (cV L) (jV L)).devRef b0 : DevRef τ sig).owner = .proc (Proc.scVector (cV L) (jV L)))
    (h1 : ((Proc.scVector (cV L) (jV L)).devRef b1 : DevRef τ sig).owner = .proc (Proc.scVector (cV L) (jV L)))
    (h2 : ((Proc.scVector (cV L) (jV L)).devRef b2 : DevRef τ sig).owner = .proc (Proc.scVector (cV L) (jV L)))
    (h3 : ((Proc.scVector (cV L) (jV L)).devRef b3 : DevRef τ sig).owner = .proc (Proc.scVector (cV L) (jV L)))
    (h10 : b1 ≠ b0) (h20 : b2 ≠ b0) (h21 : b2 ≠ b1) (h30 : b3 ≠ b0) (h31 : b3 ≠ b1) (h32 : b3 ≠ b2) :
    (ownBufs (VT d L) : sProp 𝕄)
      = iprop((∃ f, (VT d L).loc b0 ↦{fullShare} f) ∗ (∃ f, (VT d L).loc b1 ↦{fullShare} f)
          ∗ (∃ f, (VT d L).loc b2 ↦{fullShare} f) ∗ (∃ f, (VT d L).loc b3 ↦{fullShare} f)
          ∗ bigSep (((((ownRefs (τ := τ) (.scVector (cV L) (jV L))).erase ((Proc.scVector (cV L) (jV L)).devRef b0)).erase
              ((Proc.scVector (cV L) (jV L)).devRef b1)).erase ((Proc.scVector (cV L) (jV L)).devRef b2)).erase ((Proc.scVector (cV L) (jV L)).devRef b3))
              fun b => iprop(∃ f, ((d, b) : Loc nD τ sig) ↦{fullShare} f)) := by
  have ne : ∀ {a b : Ref sig .scVector}, a ≠ b → (Proc.scVector (cV L) (jV L)).devRef a ≠ (Proc.scVector (cV L) (jV L)).devRef b :=
    fun h e => h (Proc.devRef_injective _ e)
  have m0 := SparseCore.Cfg.mem_ownRefs_of_owner (p := Proc.scVector (cV L) (jV L)) h0
  have m1 := SparseCore.Cfg.mem_ownRefs_of_owner (p := Proc.scVector (cV L) (jV L)) h1
  have m2 := SparseCore.Cfg.mem_ownRefs_of_owner (p := Proc.scVector (cV L) (jV L)) h2
  have m3 := SparseCore.Cfg.mem_ownRefs_of_owner (p := Proc.scVector (cV L) (jV L)) h3
  unfold SparseCore.Cfg.ownBufs
  refine (SparseCore.bigSep_erase' m0).trans ?_
  rw [SparseCore.bigSep_erase' (Finset.mem_erase.mpr ⟨ne h10, m1⟩),
    SparseCore.bigSep_erase' (Finset.mem_erase.mpr ⟨ne h21, Finset.mem_erase.mpr ⟨ne h20, m2⟩⟩),
    SparseCore.bigSep_erase' (Finset.mem_erase.mpr ⟨ne h32, Finset.mem_erase.mpr ⟨ne h31, Finset.mem_erase.mpr ⟨ne h30, m3⟩⟩⟩)]

end Own

/-! ## The rows of the planes -/

section Rows

variable (d : Dev nD) (L : grid0.Coords)

omit [FloatOps F] in
/-- Element `x` of a subcore's row is element `(wid L, x)` of the plane. -/
theorem row_emb (x : S16384.Idx) :
    ((Rect.unit (s := S32x16384) (k2_off6 L) S1x16384.size (k2_off6_inb L)).emb
        (Shape.reshapeEquiv (s := S1x16384) (s' := S16384) squeezes_S1x16384_S16384.numel_eq x) 0).val = wid L
    ∧ ((Rect.unit (s := S32x16384) (k2_off6 L) S1x16384.size (k2_off6_inb L)).emb
        (Shape.reshapeEquiv (s := S1x16384) (s' := S16384) squeezes_S1x16384_S16384.numel_eq x) 1).val = (x 0).val := by
  have h : Shape.reshapeEquiv (s := S1x16384) (s' := S16384) squeezes_S1x16384_S16384.numel_eq x = Fin.cons ⟨0, Nat.one_pos⟩ x :=
    Shape.reshapeEquiv_cons_one (d := ![16384]) squeezes_S1x16384_S16384.numel_eq x
  have e0 : k2_off6 L 0 = 2 * (L 1).val + (L 0).val := congrFun (k2_off6_eq L) 0
  have e1 : k2_off6 L 1 = 0 := congrFun (k2_off6_eq L) 1
  rw [h]
  constructor
  · show k2_off6 L 0 + 1 * 0 = wid L
    unfold wid; omega
  · show k2_off6 L 1 + 1 * (x 0).val = (x 0).val
    omega

theorem mark_row (sk : S1048576.Idx → BitVec 32) (f : S32x16384.Idx → BitVec 32)
    (h : ∀ x, (mkRow L).view.read (Elt F) f x = markPlane sk (wid L) 2048 x) :
    ((mkRow L).view.loc (VT d L) ↦[(mkRow L).view.set]{fullShare} f : sProp 𝕄) = mkLoc d ↦[(mkRow L).view.set]{fullShare} markArr sk := by
  refine pointsTo_congr (ℓ := mkLoc d) fun i hi => ?_
  obtain ⟨x, -, rfl⟩ := Finset.mem_map.mp hi
  refine ((View.read_apply (Val := Elt F) (v := (mkRow L).view) f x).trans (cast_eq _ _)).symm.trans ((h x).trans ?_)
  obtain ⟨r0, r1⟩ := row_emb L x
  show _ = markPlane sk (((mkRow L).view.emb x) 0).val 2048 (ofN S16384 pos_S16384 ![(((mkRow L).view.emb x) 1).val])
  rw [show (((mkRow L).view.emb x) 0).val = wid L from r0, show (((mkRow L).view.emb x) 1).val = (x 0).val from r1]
  exact congrArg _ (eq_ofN _ _ _ _ fun a => by obtain rfl : a = 0 := Subsingleton.elim _ _; rfl)

theorem val_row (sk : S1048576.Idx → BitVec 32) (sv : S1048576.Idx → Elt F .f32) (f : S32x16384.Idx → Elt F .f32)
    (h : ∀ x, (vlRow L).view.read (Elt F) f x = valPlane sk sv (wid L) 2048 x) :
    ((vlRow L).view.loc (VT d L) ↦[(vlRow L).view.set]{fullShare} f : sProp 𝕄) = vlLoc d ↦[(vlRow L).view.set]{fullShare} valArr sk sv := by
  refine pointsTo_congr (ℓ := vlLoc d) fun i hi => ?_
  obtain ⟨x, -, rfl⟩ := Finset.mem_map.mp hi
  refine ((View.read_apply (Val := Elt F) (v := (vlRow L).view) f x).trans (cast_eq _ _)).symm.trans ((h x).trans ?_)
  obtain ⟨r0, r1⟩ := row_emb L x
  show _ = valPlane sk sv (((vlRow L).view.emb x) 0).val 2048 (ofN S16384 pos_S16384 ![(((vlRow L).view.emb x) 1).val])
  rw [show (((vlRow L).view.emb x) 0).val = wid L from r0, show (((vlRow L).view.emb x) 1).val = (x 0).val from r1]
  exact congrArg _ (eq_ofN _ _ _ _ fun a => by obtain rfl : a = 0 := Subsingleton.elim _ _; rfl)

end Rows

/-! ## The two tasks -/

section Tasks

variable (d : Dev nD) (L : grid0.Coords)

/-- The first call's task, from what the launch deals it to what it hands back. -/
theorem task0 (hF : (K (F := F)).Facts) (O : CellTallies nD τ sig (HIx 2)) (W : Waits sig (HIx 2)) (hO : ∀ g, O g none = 0) :
    iprop(levAts (K (F := F)).L (K (F := F)).lev ∗ emp ∗ go0 C d L ∗ scopedBufs (VT d L) ∗ scopedSems0 (VT d L) ∗ owes (VT d L) O W)
      ⊢ wp frame (wpE (defs₀ (F := F)) 𝒱₀ (VT d L) none) Set.univ
          (cc0__sc_prelude_body L siV (Memref.isWhole_whole _) upV (Memref.isWhole_whole _) kyV (Memref.isWhole_whole _) ulV (Memref.isWhole_whole _)
            p6V (Memref.isWhole_whole _) p7V (Memref.isWhole_whole _) p8V (Memref.isWhole_whole _) p9V (Memref.isWhole_whole _)
            cc0_scratch4 cc0_scratch5 cc0_scoped0 cc0_scoped1 cc0_scoped2 cc0_scoped3)
          fun _ => iprop(td0 C d L ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L),
    ownSems_split d L sem0 (by decide), ownSems_call0,
    ownBufs_four d L cc0_scratch0 cc0_scratch1 cc0_scratch2 cc0_scratch3 rfl rfl rfl rfl (by decide) (by decide) (by decide) (by decide) (by decide) (by decide)]
  iintro ⟨#Hlv, -, ⟨⟨Hsi, Hup⟩, ⟨Hk0, Hk1⟩, Hu0, Hu1⟩, ⟨⟨%g6, H6⟩, ⟨%g7, H7⟩, ⟨%g8, H8⟩, ⟨%g9, H9⟩, Hbufs⟩, ⟨HC, Hsems⟩, HO⟩
  ihave Hmw := (show levAts (K (F := F)).L (K (F := F)).lev ⊢ Transfers.MayWaits (VT d L) (none : HIx 2) O from
    (K (F := F)).mayWaits_none (thr := VT d L) hO) $$ Hlv
  iapply (wp_wand_r Idealize.ShloMosaic.frame (wpE (defs₀ (F := F)) 𝒱₀ (VT d L) none) Set.univ)
  isplitl [Hsi Hup Hk0 Hk1 Hu0 Hu1 H6 H7 H8 H9 HC HO]
  · iapply (prelude_run d L (C.si d) (C.up d) O W (shT L) (C.ky d) (C.ky d) (C.ul d) (C.ul d) g6 g7 g8 g9)
    isplitr; · iexact Hmw
    isplitl [Hsi]; · iexact Hsi
    isplitl [Hup]; · iexact Hup
    isplitl [Hk0]; · iexact Hk0
    isplitl [Hk1]; · iexact Hk1
    isplitl [Hu0]; · iexact Hu0
    isplitl [Hu1]; · iexact Hu1
    isplitl [H6]; · iexact H6
    isplitl [H7]; · iexact H7
    isplitl [H8]; · iexact H8
    isplitl [H9]; · iexact H9
    isplitl [HC]; · iexact HC
    iexact HO
  iintro %_ ⟨Hsi, Hup, Hk0, Hk1, Hu0, Hu1, H6, H7, H8, H9, HC, HO⟩
  isplitl [Hsi Hup Hk0 Hk1 Hu0 Hu1]
  · isplitl [Hsi Hup]
    · isplitl [Hsi]; · iexact Hsi
      iexact Hup
    isplitl [Hk0 Hk1]
    · isplitl [Hk0]; · iexact Hk0
      iexact Hk1
    isplitl [Hu0]; · iexact Hu0
    iexact Hu1
  isplitl [H6 H7 H8 H9 Hbufs]
  · isplitl [H6]; · iexact H6
    isplitl [H7]; · iexact H7
    isplitl [H8]; · iexact H8
    isplitl [H9]; · iexact H9
    iexact Hbufs
  isplitl [HC Hsems]
  · isplitl [HC]; · iexact HC
    iexact Hsems
  iexact HO

/-- The second call's task, from what the launch deals it to what it hands back. -/
theorem task1 (hF : (K (F := F)).Facts) (hs : KeysOk (C.sk d)) (O : CellTallies nD τ sig (HIx 2)) (W : Waits sig (HIx 2)) (hO : ∀ g, O g none = 0) :
    iprop(levAts (K (F := F)).L (K (F := F)).lev ∗ emp ∗ go1 C d L ∗ scopedBufs (VT d L) ∗ scopedSems0 (VT d L) ∗ owes (VT d L) O W)
      ⊢ wp frame (wpE (defs₀ (F := F)) 𝒱₀ (VT d L) none) Set.univ
          (cc2__sc_body L skV (Memref.isWhole_whole _) svV (Memref.isWhole_whole _) mkV (Memref.isWhole_whole _) vlV (Memref.isWhole_whole _)
            q6V (Memref.isWhole_whole _) q7V (Memref.isWhole_whole _) q8V (Memref.isWhole_whole _) q9V (Memref.isWhole_whole _)
            cc2_scratch4 cc2_scoped0 cc2_scoped1 cc2_scoped2 cc2_scoped3)
          fun _ => iprop(td1 C d L ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L),
    ownSems_split d L sem1 (by decide), ownSems_call1,
    ownBufs_four d L cc2_scratch0 cc2_scratch1 cc2_scratch2 cc2_scratch3 rfl rfl rfl rfl (by decide) (by decide) (by decide) (by decide) (by decide) (by decide)]
  iintro ⟨#Hlv, -, ⟨⟨Hsk, Hsv⟩, Hm, Hl⟩, ⟨⟨%g6, H6⟩, ⟨%g7, H7⟩, ⟨%g8, H8⟩, ⟨%g9, H9⟩, Hbufs⟩, ⟨HC, Hsems⟩, HO⟩
  ihave Hmw := (show levAts (K (F := F)).L (K (F := F)).lev ⊢ Transfers.MayWaits (VT d L) (none : HIx 2) O from
    (K (F := F)).mayWaits_none (thr := VT d L) hO) $$ Hlv
  iapply (wp_wand_r Idealize.ShloMosaic.frame (wpE (defs₀ (F := F)) 𝒱₀ (VT d L) none) Set.univ)
  isplitl [Hsk Hsv Hm Hl H6 H7 H8 H9 HC HO]
  · iapply (scatter_run d L (C.sk d) (C.sv d) hs O W (shT L) (C.mr d) (C.vr d) g6 g7 g8 g9)
    isplitr; · iexact Hmw
    isplitl [Hsk]; · iexact Hsk
    isplitl [Hsv]; · iexact Hsv
    isplitl [Hm]; · iexact Hm
    isplitl [Hl]; · iexact Hl
    isplitl [H6]; · iexact H6
    isplitl [H7]; · iexact H7
    isplitl [H8]; · iexact H8
    isplitl [H9]; · iexact H9
    isplitl [HC]; · iexact HC
    iexact HO
  iintro %_ ⟨Hsk, Hsv, ⟨%fm, %hm, Hm⟩, ⟨%fl, %hl, Hl⟩, H6, H7, H8, H9, HC, HO⟩
  ihave Hm' := (Entails.of_eq (mark_row d L (C.sk d) fm hm)) $$ Hm
  ihave Hl' := (Entails.of_eq (val_row d L (C.sk d) (C.sv d) fl hl)) $$ Hl
  isplitl [Hsk Hsv Hm' Hl']
  · isplitl [Hsk Hsv]
    · isplitl [Hsk]; · iexact Hsk
      iexact Hsv
    isplitl [Hm']; · iexact Hm'
    iexact Hl'
  isplitl [H6 H7 H8 H9 Hbufs]
  · isplitl [H6]; · iexact H6
    isplitl [H7]; · iexact H7
    isplitl [H8]; · iexact H8
    isplitl [H9]; · iexact H9
    iexact Hbufs
  isplitl [HC Hsems]
  · isplitl [HC]; · iexact HC
    iexact Hsems
  iexact HO

end Tasks

/-! ## The obligations of the launch theorem -/

theorem defs₀_call0 (c : Fin τ.nSC) (s : Fin τ.nSub) :
    defs₀ (F := F) (.scVector c s) 0 ()
      = SparseCore.onTile hcore0 hsub0 (fun c s => cc0__sc_prelude_body (coordsV c s)
          siV (Memref.isWhole_whole _) upV (Memref.isWhole_whole _) kyV (Memref.isWhole_whole _) ulV (Memref.isWhole_whole _)
          p6V (Memref.isWhole_whole _) p7V (Memref.isWhole_whole _) p8V (Memref.isWhole_whole _) p9V (Memref.isWhole_whole _)
          cc0_scratch4 cc0_scratch5 cc0_scoped0 cc0_scoped1 cc0_scoped2 cc0_scoped3) ⟨⟩ c s := rfl

theorem defs₀_call1 (c : Fin τ.nSC) (s : Fin τ.nSub) :
    defs₀ (F := F) (.scVector c s) 2 ()
      = SparseCore.onTile hcore2 hsub2 (fun c s => cc2__sc_body (coordsV c s)
          skV (Memref.isWhole_whole _) svV (Memref.isWhole_whole _) mkV (Memref.isWhole_whole _) vlV (Memref.isWhole_whole _)
          q6V (Memref.isWhole_whole _) q7V (Memref.isWhole_whole _) q8V (Memref.isWhole_whole _) q9V (Memref.isWhole_whole _)
          cc2_scratch4 cc2_scoped0 cc2_scoped1 cc2_scoped2 cc2_scoped3) ⟨⟩ c s := rfl

theorem tileObl0 (hF : (K (F := F)).Facts) : (K (F := F)).TileObl (D (F := F)) 𝒱 (P C) v₀ 0 := by
  intro d c i O W hO _ _
  simp only [show (P C).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_call0]; simp only [SparseCore.onTile, hci, and_self, ↓reduceDIte]
  refine (task0 C d (coordsV ⟨_, hci.1⟩ ⟨_, hci.2⟩) hF O W hO).trans (wp_mono frame _ _ fun _ => ?_)
  iintro ⟨H1, H2, H3, ⟨%W', %hW, HO⟩⟩
  isplitl [H1]; · iapply (Entails.of_eq (show td0 C d (coordsV ⟨((K (F := F)).core 0 c).val, hci.1⟩ ⟨((K (F := F)).sub 0 i).val, hci.2⟩) = (P C).td 0 d c i from rfl)); iexact H1
  isplitl [H2]; · iexact H2
  isplitl [H3]; · iexact H3
  iexists W'; isplitr
  · ipureintro; exact fun p hp => (hW p hp).imp id .inl
  · iexact HO

theorem tileObl1 (hF : (K (F := F)).Facts) (hs : ∀ d, KeysOk (C.sk d)) : (K (F := F)).TileObl (D (F := F)) 𝒱 (P C) v₀ 1 := by
  intro d c i O W hO _ _
  simp only [show (P C).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  refine (task1 C d (coordsV ⟨_, hci.1⟩ ⟨_, hci.2⟩) hF (hs d) O W hO).trans (wp_mono frame _ _ fun _ => ?_)
  iintro ⟨H1, H2, H3, ⟨%W', %hW, HO⟩⟩
  isplitl [H1]; · iapply (Entails.of_eq (show td1 C d (coordsV ⟨((K (F := F)).core 1 c).val, hci.1⟩ ⟨((K (F := F)).sub 1 i).val, hci.2⟩) = (P C).td 1 d c i from rfl)); iexact H1
  isplitl [H2]; · iexact H2
  isplitl [H3]; · iexact H3
  iexists W'; isplitr
  · ipureintro; exact fun p hp => (hW p hp).imp id .inl
  · iexact HO

end Cert.Proof.Sc

end
-- ==== Proof.Split.lean ====
/-
  The whole arrays as the pieces the vector subcores are dealt, and back: a read-only array by shares, a written one by
  disjoint blocks or rows that cover it.
-/
module

public import proofs.«01_k».proof.Proof.Tiles

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

/-! ## Shares of a whole array -/

/-- An array read by every subcore is the 32 shares of it. -/
theorem share_split (ℓ : Loc nD τ sig) (f : Buf (Elt F) ℓ) :
    (bigSep Finset.univ fun p : Fin 2 × Fin 16 => ℓ ↦{shT (coordsV p.1 p.2)} f : sProp 𝕄) = ℓ ↦{fullShare} f := by
  rw [BI.bigSep_univ_prod, pointsTo_leaves Finset.univ f 1 fullShare]
  exact bigSep_congr fun c _ => (pointsTo_leaves Finset.univ f 4 (shC c)).symm

/-! ## The blocks of the keys and updates -/

abbrev kySet (p : (Fin 2 × Fin 16) × Fin 2) : Finset S1048576.Idx := (kyBlk (coordsV p.1.1 p.1.2) p.2).view.set
abbrev ulSet (p : (Fin 2 × Fin 16) × Fin 2) : Finset S1048576.Idx := (ulBlk (coordsV p.1.1 p.1.2) p.2).view.set

/-- The number of a block. -/
def blkNo (p : (Fin 2 × Fin 16) × Fin 2) : ℕ := 4 * p.1.2.val + 2 * p.1.1.val + p.2.val

theorem mem_blk (p : (Fin 2 × Fin 16) × Fin 2) (x : S1048576.Idx) :
    x ∈ (Rect.unit (s := S1048576) (k0_off4 (coordsV p.1.1 p.1.2) (BitVec.ofNat 32 (16384 * p.2.val))) S16384.size (k0_off4_inb (coordsV p.1.1 p.1.2) p.2)).set
      ↔ (x 0).val / 16384 = blkNo p := by
  have e0 : k0_off4 (coordsV p.1.1 p.1.2) (BitVec.ofNat 32 (16384 * p.2.val)) 0
      = 65536 * p.1.2.val + 32768 * p.1.1.val + 16384 * p.2.val := congrFun (k0_off4_eq (coordsV p.1.1 p.1.2) p.2) 0
  rw [Rect.mem_set_unit]
  unfold blkNo
  constructor
  · intro h
    have h0 := h 0
    have h1 : (x 0).val < k0_off4 (coordsV p.1.1 p.1.2) (BitVec.ofNat 32 (16384 * p.2.val)) 0 + 16384 := h0.2
    have h2 := h0.1
    omega
  · intro h a
    obtain rfl : a = 0 := Subsingleton.elim _ _
    refine ⟨?_, ?_⟩
    · omega
    · show (x 0).val < k0_off4 (coordsV p.1.1 p.1.2) (BitVec.ofNat 32 (16384 * p.2.val)) 0 + 16384
      omega

theorem mem_kySet (p) (x : S1048576.Idx) : x ∈ kySet p ↔ (x 0).val / 16384 = blkNo p := by
  rw [← mem_blk]
  exact Eq.to_iff (congrArg (x ∈ ·) (View.set_slice_whole main_v2_0_scv _))
theorem mem_ulSet (p) (x : S1048576.Idx) : x ∈ ulSet p ↔ (x 0).val / 16384 = blkNo p := by
  rw [← mem_blk]
  exact Eq.to_iff (congrArg (x ∈ ·) (View.set_slice_whole main_v2_1_scv _))

theorem blkNo_inj {p p' : (Fin 2 × Fin 16) × Fin 2} (h : blkNo p = blkNo p') : p = p' := by
  obtain ⟨⟨c, i⟩, r⟩ := p
  obtain ⟨⟨c', i'⟩, r'⟩ := p'
  simp only [blkNo] at h
  simp only [Prod.mk.injEq, Fin.ext_iff]
  omega

theorem blkNo_surj (n : ℕ) (hn : n < 64) : ∃ p, n = blkNo p :=
  ⟨((⟨n / 2 % 2, by omega⟩, ⟨n / 4, by omega⟩), ⟨n % 2, by omega⟩), by simp only [blkNo]; omega⟩

/-- An array written in blocks is its blocks. -/
theorem blk_split (ℓ : Loc nD τ sig) (S : (Fin 2 × Fin 16) × Fin 2 → Finset (Idx ℓ)) (num : Idx ℓ → ℕ) (hnum : ∀ x, num x < 64)
    (hS : ∀ p x, x ∈ S p ↔ num x = blkNo p) (f : Buf (Elt F) ℓ) :
    (bigSep Finset.univ fun p : Fin 2 × Fin 16 => iprop((ℓ ↦[S (p, 0)]{fullShare} f) ∗ (ℓ ↦[S (p, 1)]{fullShare} f)) : sProp 𝕄) = ℓ ↦{fullShare} f := by
  have hdis : ∀ p ∈ (Finset.univ : Finset ((Fin 2 × Fin 16) × Fin 2)), ∀ p' ∈ (Finset.univ : Finset ((Fin 2 × Fin 16) × Fin 2)), p ≠ p' → Disjoint (S p) (S p') :=
    fun p _ p' _ h => Finset.disjoint_left.mpr fun x hx hx' => h (blkNo_inj (((hS p x).mp hx).symm.trans ((hS p' x).mp hx')))
  have hcov : (Finset.univ : Finset ((Fin 2 × Fin 16) × Fin 2)).biUnion S = Finset.univ :=
    Finset.eq_univ_of_forall fun x => by
      obtain ⟨p, hp⟩ := blkNo_surj (num x) (hnum x)
      exact Finset.mem_biUnion.mpr ⟨p, Finset.mem_univ _, (hS p x).mpr hp⟩
  rw [← hcov, pointsTo_biUnion Finset.univ S hdis, BI.bigSep_univ_prod (fun t : (Fin 2 × Fin 16) × Fin 2 => (ℓ ↦[S t]{fullShare} f : sProp 𝕄))]
  exact bigSep_congr fun p _ => (bigSep_fin_two (fun r : Fin 2 => (ℓ ↦[S (p, r)]{fullShare} f : sProp 𝕄))).symm

/-! ## The rows of the planes -/

abbrev mkSet (p : Fin 2 × Fin 16) : Finset S32x16384.Idx := (mkRow (coordsV p.1 p.2)).view.set
abbrev vlSet (p : Fin 2 × Fin 16) : Finset S32x16384.Idx := (vlRow (coordsV p.1 p.2)).view.set

theorem mem_row (p : Fin 2 × Fin 16) (x : S32x16384.Idx) :
    x ∈ (Rect.unit (s := S32x16384) (k2_off6 (coordsV p.1 p.2)) S1x16384.size (k2_off6_inb (coordsV p.1 p.2))).set
      ↔ (x 0).val = 2 * p.2.val + p.1.val := by
  have e0 : k2_off6 (coordsV p.1 p.2) 0 = 2 * p.2.val + p.1.val := congrFun (k2_off6_eq (coordsV p.1 p.2)) 0
  have e1 : k2_off6 (coordsV p.1 p.2) 1 = 0 := congrFun (k2_off6_eq (coordsV p.1 p.2)) 1
  have hx : (x 1).val < 16384 := (x 1).isLt
  rw [Rect.mem_set_unit]
  constructor
  · intro h
    have h1 : (x 0).val < k2_off6 (coordsV p.1 p.2) 0 + 1 := (h 0).2
    have h2 := (h 0).1
    omega
  · intro h a
    match a with
    | 0 => exact ⟨by omega, by show (x 0).val < k2_off6 (coordsV p.1 p.2) 0 + 1; omega⟩
    | 1 => exact ⟨by omega, by show (x 1).val < k2_off6 (coordsV p.1 p.2) 1 + 16384; omega⟩

theorem mem_mkSet (p) (x : S32x16384.Idx) : x ∈ mkSet p ↔ (x 0).val = 2 * p.2.val + p.1.val := by
  rw [← mem_row]
  refine Eq.to_iff (congrArg (x ∈ ·) ?_)
  refine (View.set_reshape ((mkV).view.slice (Rect.unit (s := S32x16384) (k2_off6 (coordsV p.1 p.2)) S1x16384.size (k2_off6_inb (coordsV p.1 p.2)))) squeezes_S1x16384_S16384.numel_eq).trans ?_
  exact View.set_slice_whole main_v5_0_scv _
theorem mem_vlSet (p) (x : S32x16384.Idx) : x ∈ vlSet p ↔ (x 0).val = 2 * p.2.val + p.1.val := by
  rw [← mem_row]
  refine Eq.to_iff (congrArg (x ∈ ·) ?_)
  refine (View.set_reshape ((vlV).view.slice (Rect.unit (s := S32x16384) (k2_off6 (coordsV p.1 p.2)) S1x16384.size (k2_off6_inb (coordsV p.1 p.2)))) squeezes_S1x16384_S16384.numel_eq).trans ?_
  exact View.set_slice_whole main_v5_1_scv _

/-- An array written in rows is its rows. -/
theorem row_split (ℓ : Loc nD τ sig) (S : Fin 2 × Fin 16 → Finset (Idx ℓ)) (num : Idx ℓ → ℕ) (hnum : ∀ x, num x < 32)
    (hS : ∀ p x, x ∈ S p ↔ num x = 2 * p.2.val + p.1.val) (f : Buf (Elt F) ℓ) :
    (bigSep Finset.univ fun p : Fin 2 × Fin 16 => ℓ ↦[S p]{fullShare} f : sProp 𝕄) = ℓ ↦{fullShare} f := by
  have hdis : ∀ p ∈ (Finset.univ : Finset (Fin 2 × Fin 16)), ∀ p' ∈ (Finset.univ : Finset (Fin 2 × Fin 16)), p ≠ p' → Disjoint (S p) (S p') :=
    fun p _ p' _ h => Finset.disjoint_left.mpr fun x hx hx' => h (by
      have e := ((hS p x).mp hx).symm.trans ((hS p' x).mp hx')
      exact Prod.ext (Fin.ext (by omega)) (Fin.ext (by omega)))
  have hcov : (Finset.univ : Finset (Fin 2 × Fin 16)).biUnion S = Finset.univ :=
    Finset.eq_univ_of_forall fun x => Finset.mem_biUnion.mpr ⟨(⟨num x % 2, by omega⟩, ⟨num x / 2, by have := hnum x; omega⟩), Finset.mem_univ _,
      (hS _ x).mpr (by show num x = 2 * (num x / 2) + num x % 2; omega)⟩
  rw [← hcov, pointsTo_biUnion Finset.univ S hdis]

/-! ## What the calls are given and give back, whole -/

variable [FloatOps F] (C : Con F) (d : Dev nD)

theorem whole0 (k : S1048576.Idx → BitVec 32) (u : S1048576.Idx → Elt F .f32) :
    (bigSep Finset.univ fun c : Fin 2 => bigSep Finset.univ fun i : Fin 16 => iprop(ins0 C d (coordsV c i) ∗ blks d (coordsV c i) k u) : sProp 𝕄)
      = iprop(((siLoc d ↦{fullShare} C.si d) ∗ (upLoc d ↦{fullShare} C.up d)) ∗ (kyLoc d ↦{fullShare} k) ∗ (ulLoc d ↦{fullShare} u)) := by
  rw [← BI.bigSep_univ_prod (fun p : Fin 2 × Fin 16 => iprop(ins0 C d (coordsV p.1 p.2) ∗ blks d (coordsV p.1 p.2) k u))]
  unfold ins0 blks
  rw [bigSep_sep', bigSep_sep', bigSep_sep', share_split, share_split,
    blk_split (kyLoc d) kySet (fun x => (x 0).val / 16384) (fun x => by have : (x 0).val < 1048576 := (x 0).isLt; omega) mem_kySet,
    blk_split (ulLoc d) ulSet (fun x => (x 0).val / 16384) (fun x => by have : (x 0).val < 1048576 := (x 0).isLt; omega) mem_ulSet]

theorem whole1 (k : S32x16384.Idx → BitVec 32) (u : S32x16384.Idx → Elt F .f32) :
    (bigSep Finset.univ fun c : Fin 2 => bigSep Finset.univ fun i : Fin 16 => iprop(ins1 C d (coordsV c i) ∗ rows d (coordsV c i) k u) : sProp 𝕄)
      = iprop(((skLoc d ↦{fullShare} C.sk d) ∗ (svLoc d ↦{fullShare} C.sv d)) ∗ (mkLoc d ↦{fullShare} k) ∗ (vlLoc d ↦{fullShare} u)) := by
  rw [← BI.bigSep_univ_prod (fun p : Fin 2 × Fin 16 => iprop(ins1 C d (coordsV p.1 p.2) ∗ rows d (coordsV p.1 p.2) k u))]
  unfold ins1 rows
  rw [bigSep_sep', bigSep_sep', bigSep_sep', share_split, share_split,
    row_split (mkLoc d) mkSet (fun x => (x 0).val) (fun x => (x 0).isLt) mem_mkSet,
    row_split (vlLoc d) vlSet (fun x => (x 0).val) (fun x => (x 0).isLt) mem_vlSet]

theorem st0_eq : (bigSep Finset.univ fun c : Fin ((K (F := F)).nCore 0) => (P C).st 0 d c)
    = iprop(((siLoc d ↦{fullShare} C.si d) ∗ (upLoc d ↦{fullShare} C.up d)) ∗ (kyLoc d ↦{fullShare} C.ky d) ∗ (ulLoc d ↦{fullShare} C.ul d)) :=
  whole0 C d _ _
theorem dn0_eq : (bigSep Finset.univ fun c : Fin ((K (F := F)).nCore 0) => (P C).dn 0 d c)
    = iprop(((siLoc d ↦{fullShare} C.si d) ∗ (upLoc d ↦{fullShare} C.up d)) ∗ (kyLoc d ↦{fullShare} keysOf (C.si d)) ∗ (ulLoc d ↦{fullShare} linOf (C.up d))) :=
  whole0 C d _ _
theorem st1_eq : (bigSep Finset.univ fun c : Fin ((K (F := F)).nCore 1) => (P C).st 1 d c)
    = iprop(((skLoc d ↦{fullShare} C.sk d) ∗ (svLoc d ↦{fullShare} C.sv d)) ∗ (mkLoc d ↦{fullShare} C.mr d) ∗ (vlLoc d ↦{fullShare} C.vr d)) :=
  whole1 C d _ _
theorem dn1_eq : (bigSep Finset.univ fun c : Fin ((K (F := F)).nCore 1) => (P C).dn 1 d c)
    = iprop(((skLoc d ↦{fullShare} C.sk d) ∗ (svLoc d ↦{fullShare} C.sv d)) ∗ (mkLoc d ↦{fullShare} markArr (C.sk d)) ∗ (vlLoc d ↦{fullShare} valArr (C.sk d) (C.sv d))) :=
  whole1 C d _ _

end Cert.Proof.Sc

end
-- ==== Proof.Main.lean ====
/-
  @main on the TensorCore: the arrays' contents step by step, the launch's ghost state, and the run of the whole program.
-/
module

public import proofs.«01_k».proof.Proof.Merge
public import proofs.«01_k».proof.Proof.Split

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

open Idealize.ShloMosaic.StableHlo (held held_sub_split wp_hlo_within)

/-! ## The host operations -/

section Ops

variable [FloatOps F]

abbrev opT1 : HloOp τ sig (Elt F) := StableHlo.unary main_arg1 main_v0 ((transpose S4x2x262144 [1, 2, 0] · transposes_S262144x4x2_S4x2x262144_1_2_0) : (⟨S262144x4x2, .i32⟩ : BufTy).Contents (Elt F) → (⟨S4x2x262144, .i32⟩ : BufTy).Contents (Elt F))
abbrev opT2 : HloOp τ sig (Elt F) := StableHlo.unary main_arg2 main_v1 ((transpose S4x262144 [1, 0] · transposes_S262144x4_S4x262144_1_0) : (⟨S262144x4, .f32⟩ : BufTy).Contents (Elt F) → (⟨S4x262144, .f32⟩ : BufTy).Contents (Elt F))
abbrev opS1 : HloOp τ sig (Elt F) := StableHlo.binary main_v2_0 main_v2_1 main_v4_0 ((fun x y => (Host.unstableSort2 S1048576 0 comparator_i32_f32_d0 x y).1) : (⟨S1048576, .i32⟩ : BufTy).Contents (Elt F) → (⟨S1048576, .f32⟩ : BufTy).Contents (Elt F) → (⟨S1048576, .i32⟩ : BufTy).Contents (Elt F))
abbrev opS2 : HloOp τ sig (Elt F) := StableHlo.binary main_v2_0 main_v2_1 main_v4_1 ((fun x y => (Host.unstableSort2 S1048576 0 comparator_i32_f32_d0 x y).2) : (⟨S1048576, .i32⟩ : BufTy).Contents (Elt F) → (⟨S1048576, .f32⟩ : BufTy).Contents (Elt F) → (⟨S1048576, .f32⟩ : BufTy).Contents (Elt F))
abbrev opR1 : HloOp τ sig (Elt F) := StableHlo.reshape main_v5_0 main_v6 (rfl : (.i32 : EltTy) = .i32) shapeCasts_S32x16384_S32x128x128
abbrev opR2 : HloOp τ sig (Elt F) := StableHlo.reshape main_v5_1 main_v7 (rfl : (.f32 : EltTy) = .f32) shapeCasts_S32x16384_S32x128x128
abbrev opC : HloOp τ sig (Elt F) := StableHlo.unary main_v3 main_v8 id

end Ops

/-- A TensorCore's buffer among a device's. -/
abbrev dr (r : Ref sig .tc) : DevRef τ sig := Proc.devRef .tc r

abbrev US : Finset (DevRef τ sig) := Pipeline.ucRefs τ sig

theorem in_US (r : Ref sig .tc) (h : r.isScoped = false := by rfl) : dr r ∈ US := Pipeline.devRef_mem_ucRefs h

/-! ## The arrays' contents, step by step -/

section Vals

variable [FloatOps F] (m : (ℓ : Loc nD τ sig) → Buf (Elt F) ℓ) (d : Dev nD)

/-- The operand, the indices and the updates, as the program is given them. -/
abbrev argX : S262144x128.Idx → Elt F .f32 := m ((SparseCore.T d).loc main_arg0)
abbrev argI : S262144x4x2.Idx → BitVec 32 := m ((SparseCore.T d).loc main_arg1)
abbrev argU : S262144x4.Idx → Elt F .f32 := m ((SparseCore.T d).loc main_arg2)

/-- The keys and updates in linear order, and sorted. -/
def keyL : S1048576.Idx → BitVec 32 := keysOf (transpose S4x2x262144 [1, 2, 0] (argI m d) transposes_S262144x4x2_S4x2x262144_1_2_0)
def updL : S1048576.Idx → Elt F .f32 := linOf (transpose S4x262144 [1, 0] (argU m d) transposes_S262144x4_S4x262144_1_0)
def keyS : S1048576.Idx → BitVec 32 := (Host.unstableSort2 S1048576 0 (comparator_i32_f32_d0 (F := F)) (keyL m d) (updL m d)).1
def updS : S1048576.Idx → Elt F .f32 := (Host.unstableSort2 S1048576 0 (comparator_i32_f32_d0 (F := F)) (keyL m d) (updL m d)).2

def V0 : Valuation τ sig (Elt F) := fun b => m (d, b)
def V1 : Valuation τ sig (Elt F) := (opT1 (F := F)).result (V0 m d)
def V2 : Valuation τ sig (Elt F) := (opT2 (F := F)).result (V1 m d)
def V3 : Valuation τ sig (Elt F) := Function.update (Function.update (V2 m d) (dr main_v2_0) (keyL m d)) (dr main_v2_1) (updL m d)

/-- The two kernels' proof data at given contents. -/
def datsA (n b : ℕ) (W : Dev nD → Valuation τ sig (Elt F)) : (q : Fin 2) → (c : Dev nD) → Pipeline.Dat τ (Elt F) (HIx 2) ℕ UU ℕ (cfgs q) c
  | 0, c => dat1 n b W c
  | 1, c => dat3 n b W c

/-- How far the waits a TensorCore has recorded reach before its call `n`. -/
abbrev bnd (n : ℕ) : ℕ := 8 * n

def V4 : Valuation τ sig (Elt F) := Pipeline.afterRegion (dat1 1 (bnd 1) (V3 m) d) (V3 m d)
def V5 : Valuation τ sig (Elt F) := (opS1 (F := F)).result (V4 m d)
def V6 : Valuation τ sig (Elt F) := (opS2 (F := F)).result (V5 m d)
def V7 : Valuation τ sig (Elt F) :=
  Function.update (Function.update (V6 m d) (dr main_v5_0) (markArr (keyS m d))) (dr main_v5_1) (valArr (F := F) (keyS m d) (updS m d))
def V8 : Valuation τ sig (Elt F) := (opR1 (F := F)).result (V7 m d)
def V9 : Valuation τ sig (Elt F) := (opR2 (F := F)).result (V8 m d)
def V10 : Valuation τ sig (Elt F) := (opC (F := F)).result (V9 m d)
def V11 : Valuation τ sig (Elt F) := Pipeline.afterRegion (dat3 2 (bnd 2) (V10 m) d) (V10 m d)

/-- What the SparseCore calls carry. -/
def con : Con F where
  si d := transpose S4x2x262144 [1, 2, 0] (argI m d) transposes_S262144x4x2_S4x2x262144_1_2_0
  up d := transpose S4x262144 [1, 0] (argU m d) transposes_S262144x4_S4x262144_1_0
  sk d := keyS m d
  sv d := updS m d
  ky d := m (kyLoc d)
  ul d := m (ulLoc d)
  mr d := m (mkLoc d)
  vr d := m (vlLoc d)

end Vals

/-! ## The launch's ghost state -/

section Ghost

variable [FloatOps F]

theorem launch0 : Pipeline.LaunchFacts (nD := nD) (τ := τ) cfgs 0 := launch1

/-- What each TensorCore is dealt for its two kernels' regions. -/
abbrev ghost (d : Dev nD) : sProp 𝕄 :=
  iprop((Pipeline.cellsGhost cfgs EP 0 d ∗ Pipeline.cellsGhost cfgs EP 1 d)
    ∗ (Pipeline.toksInit cfgs EP 0 d ∗ Pipeline.toksInit cfgs EP 1 d))

def u₀ : UU := ((initOf (K (F := F)).hsCells (K (F := F)).hsToks, initOf (Pipeline.cells (nD := nD) (τ := τ) cfgs cellOf_inj) (Pipeline.launchToks (nD := nD) (τ := τ) cfgs cellOf_inj)), 1)

variable (C : Con F)

theorem hu₀ : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 2 => (P C).x q thr) := by
  unfold u₀
  iintro Hu
  ihave H := (ownU_pair (initOf (K (F := F)).hsCells (K (F := F)).hsToks, initOf (Pipeline.cells (nD := nD) (τ := τ) cfgs cellOf_inj) (Pipeline.launchToks (nD := nD) (τ := τ) cfgs cellOf_inj)) (1 : Counters)) $$ Hu
  icases H with ⟨H, -⟩
  ihave H := (own_pair_emb embL (initOf (K (F := F)).hsCells (K (F := F)).hsToks) (initOf (Pipeline.cells (nD := nD) (τ := τ) cfgs cellOf_inj) (Pipeline.launchToks (nD := nD) (τ := τ) cfgs cellOf_inj))) $$ H
  icases H with ⟨HH, HP⟩
  imod (Pipeline.fund_ghost (nD := nD) (τ := τ) (Ix := HIx 2) (Val := Elt F) (Name := ℕ) (U := UU) (Lvl := ℕ) cfgs EP cellOf_inj) $$ [HP] with ⟨Hg, Ht⟩
  · iexact HP
  imodintro
  isplitl [HH]; · iexact HH
  isplitl [Hg Ht]
  · have two (Φ : Fin 2 → sProp 𝕄) : bigSep Finset.univ Φ = iprop(Φ 0 ∗ Φ 1) := by
      rw [show (Finset.univ : Finset (Fin 2)) = {0, 1} by decide, SparseCore.bigSep_insert' (by decide), bigSep_singleton]
    simp only [two, bigSep_sep']
    icases Hg with ⟨Hg0, Hg1⟩
    icases Ht with ⟨Ht0, Ht1⟩
    isplitl [Hg0 Hg1]
    · isplitl [Hg0] <;> iassumption
    · isplitl [Ht0] <;> iassumption
  rw [show (bigSep Finset.univ fun thr : Thread nD τ => bigSep Finset.univ fun q : Fin 2 => (P C).x q thr) = bigSep Finset.univ fun _ => iprop(emp) from
    bigSep_congr fun _ _ => bigSep_emp_const _]
  rw [show (bigSep Finset.univ fun _ : Thread nD τ => (iprop(emp) : sProp 𝕄)) = iprop(emp) from bigSep_emp_const _]
  iempintro

end Ghost

section Walk

variable [FloatOps F] (m : (ℓ : Loc nD τ sig) → Buf (Elt F) ℓ) (ρ : Dev nD → PrngReg)

/-- The arrays of the first SparseCore call among the others. -/
abbrev T0 : Finset (DevRef τ sig) := {dr main_v0, dr main_v1, dr main_v2_0, dr main_v2_1}
abbrev T1 : Finset (DevRef τ sig) := {dr main_v4_0, dr main_v4_1, dr main_v5_0, dr main_v5_1}

theorem sub_US (s : Finset (DevRef τ sig)) (h : ∀ b ∈ s, b ∈ US) : s ⊆ US := h

theorem T0_sub : T0 ⊆ US := by
  intro b hb
  simp only [T0, Finset.mem_insert, Finset.mem_singleton] at hb
  rcases hb with rfl | rfl | rfl | rfl <;> exact in_US _
theorem T1_sub : T1 ⊆ US := by
  intro b hb
  simp only [T1, Finset.mem_insert, Finset.mem_singleton] at hb
  rcases hb with rfl | rfl | rfl | rfl <;> exact in_US _

theorem held_T0 (d : Dev nD) (V : Valuation τ sig (Elt F)) : (held (SparseCore.T d) T0 V : sProp 𝕄)
    = iprop((siLoc d ↦{fullShare} V (dr main_v0)) ∗ (upLoc d ↦{fullShare} V (dr main_v1)) ∗ (kyLoc d ↦{fullShare} V (dr main_v2_0)) ∗ (ulLoc d ↦{fullShare} V (dr main_v2_1))) := by
  unfold held
  rw [SparseCore.bigSep_insert' (by decide), SparseCore.bigSep_insert' (by decide), SparseCore.bigSep_insert' (by decide), bigSep_singleton]
theorem held_T1 (d : Dev nD) (V : Valuation τ sig (Elt F)) : (held (SparseCore.T d) T1 V : sProp 𝕄)
    = iprop((skLoc d ↦{fullShare} V (dr main_v4_0)) ∗ (svLoc d ↦{fullShare} V (dr main_v4_1)) ∗ (mkLoc d ↦{fullShare} V (dr main_v5_0)) ∗ (vlLoc d ↦{fullShare} V (dr main_v5_1))) := by
  unfold held
  rw [SparseCore.bigSep_insert' (by decide), SparseCore.bigSep_insert' (by decide), SparseCore.bigSep_insert' (by decide), bigSep_singleton]

theorem sub2 (r s : Ref sig .tc) (hr : r.isScoped = false := by rfl) (hs : s.isScoped = false := by rfl) :
    ({dr r, dr s} : Finset (DevRef τ sig)) ⊆ US := by
  intro b hb
  simp only [Finset.mem_insert, Finset.mem_singleton] at hb
  rcases hb with rfl | rfl <;> exact Pipeline.devRef_mem_ucRefs ‹_›
theorem sub3 (r s t : Ref sig .tc) (hr : r.isScoped = false := by rfl) (hs : s.isScoped = false := by rfl) (ht : t.isScoped = false := by rfl) :
    ({dr r, dr s, dr t} : Finset (DevRef τ sig)) ⊆ US := by
  intro b hb
  simp only [Finset.mem_insert, Finset.mem_singleton] at hb
  rcases hb with rfl | rfl | rfl <;> exact Pipeline.devRef_mem_ucRefs ‹_›

variable (d : Dev nD)

theorem dr_ne {r s : Ref sig .tc} (h : r ≠ s) : dr r ≠ dr s := fun e => h (Proc.devRef_injective _ e)

theorem V2_v0 : V2 m d (dr main_v0) = (con m).si d :=
  (StableHlo.unary_result_ne _ _ _ _ _ (V1 m d) (by decide)).trans (StableHlo.unary_result _ _ _ _ _ (V0 m d))
theorem V2_v1 : V2 m d (dr main_v1) = (con m).up d :=
  (StableHlo.unary_result _ _ _ _ _ (V1 m d)).trans
    (congrArg (fun x => transpose S4x262144 [1, 0] x transposes_S262144x4_S4x262144_1_0) (StableHlo.unary_result_ne _ _ _ _ _ (V0 m d) (by decide)))
theorem V2_of_ne (r : Ref sig .tc) (h0 : r ≠ main_v0) (h1 : r ≠ main_v1) : V2 m d (dr r) = m (d, dr r) :=
  (StableHlo.unary_result_ne _ _ _ _ _ (V1 m d) h1).trans (StableHlo.unary_result_ne _ _ _ _ _ (V0 m d) h0)
theorem V3_ky : V3 m d (dr main_v2_0) = keyL m d :=
  (Function.update_of_ne (dr_ne (by decide)) _ _).trans (Function.update_self _ _ _)
theorem V3_ul : V3 m d (dr main_v2_1) = updL m d := Function.update_self _ _ _
theorem V3_of_ne (b : DevRef τ sig) (h0 : b ≠ dr main_v2_0) (h1 : b ≠ dr main_v2_1) : V3 m d b = V2 m d b :=
  (Function.update_of_ne h1 _ _).trans (Function.update_of_ne h0 _ _)

/-- All arrays around the first call: those it is lent and the rest, which fit what it hands back. -/
theorem call0 : (held (SparseCore.T d) US (V2 m d) : sProp 𝕄)
    ⊢ iprop((bigSep Finset.univ fun c : Fin ((K (F := F)).nCore 0) => (P (con m)).st 0 d c)
        ∗ ((bigSep Finset.univ fun c : Fin ((K (F := F)).nCore 0) => (P (con m)).dn 0 d c) -∗ held (SparseCore.T d) US (V3 m d))) := by
  rw [st0_eq, dn0_eq, held_sub_split (SparseCore.T d) T0_sub (V2 m d), held_sub_split (SparseCore.T d) T0_sub (V3 m d), held_T0, held_T0,
    V3_of_ne m d (dr main_v0) (dr_ne (by decide)) (dr_ne (by decide)), V3_of_ne m d (dr main_v1) (dr_ne (by decide)) (dr_ne (by decide)),
    V3_ky, V3_ul, V2_v0, V2_v1, V2_of_ne m d main_v2_0 (by decide) (by decide), V2_of_ne m d main_v2_1 (by decide) (by decide),
    StableHlo.held_congr (SparseCore.T d) (S := US \ T0) (V := V3 m d) (V' := V2 m d) (fun b hb => V3_of_ne m d b
      (fun e => (Finset.mem_sdiff.mp hb).2 (by rw [e]; decide)) (fun e => (Finset.mem_sdiff.mp hb).2 (by rw [e]; decide)))]
  iintro ⟨⟨Hsi, Hup, Hky, Hul⟩, Hrest⟩
  isplitl [Hsi Hup Hky Hul]
  · isplitl [Hsi Hup]
    · isplitl [Hsi]; · iexact Hsi
      iexact Hup
    · isplitl [Hky]; · iexact Hky
      iexact Hul
  iintro ⟨⟨Hsi, Hup⟩, Hky, Hul⟩
  isplitr [Hrest]
  · isplitl [Hsi]; · iexact Hsi
    isplitl [Hup]; · iexact Hup
    isplitl [Hky]; · iexact Hky
    iexact Hul
  iexact Hrest

/-- The copy's region writes its result's array alone. -/
theorem V4_v3 : V4 m d (dr main_v3) = argX m d :=
  (Pipeline.afterRegion_arr (dat1 1 (bnd 1) (V3 m) d) (V3 m d) launch0.win.arr_inj 1).trans
    ((copied 1 (bnd 1) (V3 m) d).trans ((V3_of_ne m d _ (dr_ne (by decide)) (dr_ne (by decide))).trans (V2_of_ne m d main_arg0 (by decide) (by decide))))
theorem V4_of_ne (r : Ref sig .tc) (h0 : r ≠ main_arg0) (h1 : r ≠ main_v3) : V4 m d (dr r) = V3 m d (dr r) :=
  Pipeline.afterRegion_of_not_arr (dat1 1 (bnd 1) (V3 m) d) (V3 m d) fun w => match w with
    | 0 => h0
    | 1 => h1
theorem V4_arg0 : V4 m d (dr main_arg0) = argX m d :=
  (Pipeline.afterRegion_arr (dat1 1 (bnd 1) (V3 m) d) (V3 m d) launch0.win.arr_inj 0).trans
    (((dat1 1 (bnd 1) (V3 m) d).arrAt_in 0 rfl cfg1.N).trans ((V3_of_ne m d _ (dr_ne (by decide)) (dr_ne (by decide))).trans (V2_of_ne m d main_arg0 (by decide) (by decide))))

theorem V5_of_ne (r : Ref sig .tc) (h : r ≠ main_v4_0) : V5 m d (dr r) = V4 m d (dr r) := StableHlo.binary_result_ne _ _ _ _ _ _ _ (V4 m d) h
theorem V6_of_ne (r : Ref sig .tc) (h : r ≠ main_v4_1) : V6 m d (dr r) = V5 m d (dr r) := StableHlo.binary_result_ne _ _ _ _ _ _ _ (V5 m d) h
theorem V5_ky : V5 m d (dr main_v2_0) = keyL m d := (V5_of_ne m d _ (by decide)).trans ((V4_of_ne m d _ (by decide) (by decide)).trans (V3_ky m d))
theorem V5_ul : V5 m d (dr main_v2_1) = updL m d := (V5_of_ne m d _ (by decide)).trans ((V4_of_ne m d _ (by decide) (by decide)).trans (V3_ul m d))
theorem V6_sk : V6 m d (dr main_v4_0) = keyS m d := by
  rw [V6_of_ne m d _ (by decide)]
  refine (StableHlo.binary_result _ _ _ _ _ _ _ (V4 m d)).trans ?_
  rw [V4_of_ne m d _ (by decide) (by decide), V4_of_ne m d _ (by decide) (by decide), V3_ky, V3_ul]
  rfl
theorem V6_sv : V6 m d (dr main_v4_1) = updS m d := by
  refine (StableHlo.binary_result _ _ _ _ _ _ _ (V5 m d)).trans ?_
  rw [V5_ky, V5_ul]
  rfl
theorem V6_of_ne3 (r : Ref sig .tc) (h0 : r ∉ [main_v0, main_v1, main_v2_0, main_v2_1, main_arg0, main_v3, main_v4_0, main_v4_1]) :
    V6 m d (dr r) = m (d, dr r) := by
  simp only [List.mem_cons, not_or] at h0
  obtain ⟨h0, h1, h2, h3, h4, h5, h6, h7, -⟩ := h0
  rw [V6_of_ne m d r h7, V5_of_ne m d r h6, V4_of_ne m d r h4 h5, V3_of_ne m d _ (dr_ne h2) (dr_ne h3), V2_of_ne m d r h0 h1]

theorem V7_mk : V7 m d (dr main_v5_0) = markArr (keyS m d) :=
  (Function.update_of_ne (dr_ne (by decide)) _ _).trans (Function.update_self _ _ _)
theorem V7_vl : V7 m d (dr main_v5_1) = valArr (F := F) (keyS m d) (updS m d) := Function.update_self _ _ _
theorem V7_of_ne (b : DevRef τ sig) (h0 : b ≠ dr main_v5_0) (h1 : b ≠ dr main_v5_1) : V7 m d b = V6 m d b :=
  (Function.update_of_ne h1 _ _).trans (Function.update_of_ne h0 _ _)

theorem call1 : (held (SparseCore.T d) US (V6 m d) : sProp 𝕄)
    ⊢ iprop((bigSep Finset.univ fun c : Fin ((K (F := F)).nCore 1) => (P (con m)).st 1 d c)
        ∗ ((bigSep Finset.univ fun c : Fin ((K (F := F)).nCore 1) => (P (con m)).dn 1 d c) -∗ held (SparseCore.T d) US (V7 m d))) := by
  rw [st1_eq, dn1_eq, held_sub_split (SparseCore.T d) T1_sub (V6 m d), held_sub_split (SparseCore.T d) T1_sub (V7 m d), held_T1, held_T1,
    V7_of_ne m d (dr main_v4_0) (dr_ne (by decide)) (dr_ne (by decide)), V7_of_ne m d (dr main_v4_1) (dr_ne (by decide)) (dr_ne (by decide)),
    V7_mk, V7_vl, V6_sk, V6_sv, V6_of_ne3 m d main_v5_0 (by decide), V6_of_ne3 m d main_v5_1 (by decide),
    StableHlo.held_congr (SparseCore.T d) (S := US \ T1) (V := V7 m d) (V' := V6 m d) (fun b hb => V7_of_ne m d b
      (fun e => (Finset.mem_sdiff.mp hb).2 (by rw [e]; decide)) (fun e => (Finset.mem_sdiff.mp hb).2 (by rw [e]; decide)))]
  iintro ⟨⟨Hsi, Hup, Hky, Hul⟩, Hrest⟩
  isplitl [Hsi Hup Hky Hul]
  · isplitl [Hsi Hup]
    · isplitl [Hsi]; · iexact Hsi
      iexact Hup
    · isplitl [Hky]; · iexact Hky
      iexact Hul
  iintro ⟨⟨Hsi, Hup⟩, Hky, Hul⟩
  isplitr [Hrest]
  · isplitl [Hsi]; · iexact Hsi
    isplitl [Hup]; · iexact Hup
    isplitl [Hky]; · iexact Hky
    iexact Hul
  iexact Hrest

/-- What a TensorCore holds before its call `n` besides what it owes. -/
def tcRest (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some (SparseCore.Cfg.Blocks.last q)) 1)))
theorem tcSt_split (n : ℕ) : ((K (F := F)).tcSt EH d n : sProp 𝕄) = iprop(owesB (F := F) d n (bnd n) ∗ tcRest (F := F) d n) := rfl

theorem V9_of_ne (r : Ref sig .tc) (h0 : r ≠ main_v6) (h1 : r ≠ main_v7) : V9 m d (dr r) = V7 m d (dr r) :=
  (StableHlo.reshape_result_ne _ _ _ _ _ _ (V8 m d) h1).trans (StableHlo.reshape_result_ne _ _ _ _ _ _ (V7 m d) h0)
theorem V10_of_ne (r : Ref sig .tc) (h : r ≠ main_v8) : V10 m d (dr r) = V9 m d (dr r) := StableHlo.unary_result_ne _ _ _ _ _ (V9 m d) h
theorem V10_v3 : V10 m d (dr main_v3) = argX m d := by
  rw [V10_of_ne m d _ (by decide), V9_of_ne m d _ (by decide) (by decide), V7_of_ne m d _ (dr_ne (by decide)) (dr_ne (by decide)),
    V6_of_ne m d _ (by decide), V5_of_ne m d _ (by decide), V4_v3]
theorem V10_v8 : V10 m d (dr main_v8) = argX m d := by
  refine (StableHlo.unary_result _ _ _ _ _ (V9 m d)).trans ?_
  have e := V10_v3 m d
  rw [V10_of_ne m d _ (by decide)] at e
  exact e
theorem V10_v6 : V10 m d (dr main_v6) = shapeCast S32x128x128 (markArr (keyS m d)) shapeCasts_S32x16384_S32x128x128 := by
  rw [V10_of_ne m d _ (by decide)]
  refine (StableHlo.reshape_result_ne _ _ _ _ _ _ (V8 m d) (by decide)).trans ((StableHlo.reshape_result _ _ _ _ _ _ (V7 m d)).trans ?_)
  rw [V7_mk]
  rfl
theorem V10_v7 : V10 m d (dr main_v7) = shapeCast S32x128x128 (valArr (F := F) (keyS m d) (updS m d)) shapeCasts_S32x16384_S32x128x128 := by
  rw [V10_of_ne m d _ (by decide)]
  refine (StableHlo.reshape_result _ _ _ _ _ _ (V8 m d)).trans ?_
  rw [show V8 m d (dr main_v5_1) = V7 m d (dr main_v5_1) from StableHlo.reshape_result_ne _ _ _ _ _ _ (V7 m d) (by decide), V7_vl]
  rfl

/-- The program's result: in the first 128 rows the operand with the 32 subcores' planes laid over it, below them the operand. -/
def outV : S262144x128.Idx → Elt F .f32 := fun i =>
  if (i 0).val < 128 then
    merged (α := Elt F .f32) (shapeCast S32x128x128 (markArr (keyS m d)) shapeCasts_S32x16384_S32x128x128)
      (shapeCast S32x128x128 (valArr (F := F) (keyS m d) (updS m d)) shapeCasts_S32x16384_S32x128x128)
      (fun x => argX m d (ofN S262144x128 pos_S262144x128 ![(x 0).val, (x 1).val])) 32 (inFirst i)
  else argX m d i

theorem V11_v8 : V11 m d (dr main_v8) = outV m d := by
  refine (Pipeline.afterRegion_arr (dat3 2 (bnd 2) (V10 m) d) (V10 m d) launch3.win.arr_inj 3).trans ?_
  funext i
  rw [merge_out, marks_eq, vals_eq, V10_v6, V10_v7, V10_v8, show firstBlk (V10 m) d = _ from funext (firstBlk_eq (V10 m) d), V10_v3]
  rfl
theorem V11_of_ne (r : Ref sig .tc) (h : r ∉ [main_v3, main_v6, main_v7, main_v8]) : V11 m d (dr r) = V10 m d (dr r) := by
  simp only [List.mem_cons, not_or] at h
  obtain ⟨h0, h1, h2, h3, -⟩ := h
  exact Pipeline.afterRegion_of_not_arr (dat3 2 (bnd 2) (V10 m) d) (V10 m d) fun w => match w with
    | 0 => h0
    | 1 => h1
    | 2 => h2
    | 3 => h3
theorem V11_arg0 : V11 m d (dr main_arg0) = argX m d := by
  rw [V11_of_ne m d _ (by decide), V10_of_ne m d _ (by decide), V9_of_ne m d _ (by decide) (by decide),
    V7_of_ne m d _ (dr_ne (by decide)) (dr_ne (by decide)), V6_of_ne m d _ (by decide), V5_of_ne m d _ (by decide), V4_arg0]
theorem V11_arg (r : Ref sig .tc) (h : r = main_arg1 ∨ r = main_arg2) : V11 m d (dr r) = m (d, dr r) := by
  rw [V11_of_ne m d r (by rcases h with rfl | rfl <;> decide), V10_of_ne m d r (by rcases h with rfl | rfl <;> decide),
    V9_of_ne m d r (by rcases h with rfl | rfl <;> decide) (by rcases h with rfl | rfl <;> decide),
    V7_of_ne m d _ (dr_ne (by rcases h with rfl | rfl <;> decide)) (dr_ne (by rcases h with rfl | rfl <;> decide)),
    V6_of_ne3 m d r (by rcases h with rfl | rfl <;> decide)]

variable [∀ e, Nonempty (Elt F e)]

/-- What @main leaves the claims. -/
abbrev FIN : sProp 𝕄 := held (SparseCore.T d) US (V11 m d)

theorem hmain (κ : GSem nD τ sig → ℕ) :
    iprop((K (F := F)).ctx EH (P (con m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) US (V0 m d) from Pipeline.unscopedBufs_held d (V0 m d)]
  simp only [main, wp_bind, wp_pure]
  iintro ⟨#Hctx, Hst, ⟨Hb, Hheld, Hts, -⟩, ⟨⟨Hg0, Hg1⟩, Ht0, Ht1⟩⟩
  ihave #Hlev := ((K (F := F)).ctx_levAts (EH := EH) (P := P (con m)) κ) $$ Hctx
  iapply (wp_hlo_within 𝒱 (SparseCore.T d) none Set.univ (op := opT1) (S := US) (sub2 main_arg1 main_v0) (V := V0 m d)) $$ [Hb Hheld]
  · isplitl [Hb] <;> iassumption
  iintro ⟨Hb, Hheld⟩
  rw [wp_ret]; imodintro
  iapply (wp_hlo_within 𝒱 (SparseCore.T d) none Set.univ (op := opT2) (S := US) (sub2 main_arg2 main_v1) (V := V1 m d)) $$ [Hb Hheld]
  · isplitl [Hb]; · iexact Hb
    iexact Hheld
  iintro ⟨Hb, Hheld⟩
  rw [wp_ret]; imodintro
  -- the first SparseCore call
  ihave H := (call0 m d) $$ [Hheld]
  · iexact Hheld
  icases H with ⟨Hcall, Hback⟩
  iapply ((K (F := F)).wp_run (D (F := F)) 𝒱 (EH := EH) (P := P (con m)) κ d 0) $$ [Hst Hcall Hback Hb Hts Hg0 Hg1 Ht0 Ht1]
  isplitr; · iexact Hctx
  isplitl [Hst]; · iexact Hst
  isplitl [Hcall]; · iexact Hcall
  iintro ⟨Hst, Hdn⟩
  ihave Hheld := Hback $$ Hdn
  -- the copying kernel
  ihave Hst := (Entails.of_eq (show ((K (F := F)).tcSt EH d ((0 : Fin 2).val + 1) : sProp 𝕄) = _ from tcSt_split d 1)) $$ Hst
  icases Hst with ⟨How, Hrest⟩
  iapply (region_step 0 launch0 1 (bnd 1) (datsA 1 (bnd 1) (V3 m)) (V3 m) (fun c => (body1 1 (bnd 1) (V3 m) c).loose)
    (fun c w => by match w with | 0 => rfl | 1 => rfl) (fun c t => rfl) (fun c t => rfl) (fun c w => rfl) (fun c t => rfl) d _)
  isplitl [Hb]; · iexact Hb
  isplitl [Hheld How]
  · isplitl [Hheld] <;> iassumption
  isplitr; · iexact Hlev
  isplitl [Hg0]; · iexact Hg0
  isplitl [Ht0]; · iexact Ht0
  iintro ⟨Hb, Hheld, How⟩
  -- the sort
  iapply (wp_hlo_within 𝒱 (SparseCore.T d) none Set.univ (op := opS1) (S := US) (sub3 main_v2_0 main_v2_1 main_v4_0) (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := opS2) (S := US) (sub3 main_v2_0 main_v2_1 main_v4_1) (V := V5 m d)) $$ [Hb Hheld]
  · isplitl [Hb]; · iexact Hb
    iexact Hheld
  iintro ⟨Hb, Hheld⟩
  rw [wp_ret]; imodintro
  -- the second SparseCore call
  ihave H := (call1 m d) $$ [Hheld]
  · iexact Hheld
  icases H with ⟨Hcall, Hback⟩
  ihave Hst := (Entails.of_eq (tcSt_split (F := F) d 1).symm) $$ [How Hrest]
  · isplitl [How] <;> iassumption
  iapply ((K (F := F)).wp_run (D (F := F)) 𝒱 (EH := EH) (P := P (con m)) κ d 1) $$ [Hst Hcall Hback Hb Hts Hg1 Ht1]
  isplitr; · iexact Hctx
  isplitl [Hst]; · iexact Hst
  isplitl [Hcall]; · iexact Hcall
  iintro ⟨Hst, Hdn⟩
  ihave Hheld := Hback $$ Hdn
  -- the planes reshaped, the operand's copy
  iapply (wp_hlo_within 𝒱 (SparseCore.T d) none Set.univ (op := opR1) (S := US) (sub2 main_v5_0 main_v6) (V := V7 m d)) $$ [Hb Hheld]
  · isplitl [Hb]; · iexact Hb
    iexact Hheld
  iintro ⟨Hb, Hheld⟩
  rw [wp_ret]; imodintro
  iapply (wp_hlo_within 𝒱 (SparseCore.T d) none Set.univ (op := opR2) (S := US) (sub2 main_v5_1 main_v7) (V := V8 m d)) $$ [Hb Hheld]
  · isplitl [Hb]; · iexact Hb
    iexact Hheld
  iintro ⟨Hb, Hheld⟩
  rw [wp_ret]; imodintro
  iapply (wp_hlo_within 𝒱 (SparseCore.T d) none Set.univ (op := opC) (S := US) (sub2 main_v3 main_v8) (V := V9 m d)) $$ [Hb Hheld]
  · isplitl [Hb]; · iexact Hb
    iexact Hheld
  iintro ⟨Hb, Hheld⟩
  rw [wp_ret]; imodintro
  -- the merging kernel
  ihave Hst := (Entails.of_eq (show ((K (F := F)).tcSt EH d ((1 : Fin 2).val + 1) : sProp 𝕄) = _ from tcSt_split d 2)) $$ Hst
  icases Hst with ⟨How, Hrest⟩
  iapply (region_step 1 launch3 2 (bnd 2) (datsA 2 (bnd 2) (V10 m)) (V10 m) (fun c => (body3 2 (bnd 2) (V10 m) c).loose)
    (fun c w => by match w with | 0 => rfl | 1 => rfl | 2 => rfl | 3 => rfl) (fun c t => rfl) (fun c t => rfl) (fun c w => rfl) (fun c t => rfl) d _)
  isplitl [Hb]; · iexact Hb
  isplitl [Hheld How]
  · isplitl [Hheld]; · iexact Hheld
    iexact How
  isplitr; · iexact Hlev
  isplitl [Hg1]; · iexact Hg1
  isplitl [Ht1]; · iexact Ht1
  iintro ⟨Hb, Hheld, How⟩
  imodintro
  isplitl [How Hrest]
  · iapply (Entails.of_eq (tcSt_split (F := F) d 2).symm)
    isplitl [How] <;> iassumption
  isplitl [Hheld]; · iexact Hheld
  isplitl [Hb] <;> iassumption

/-- What the claims read of a device's final state. -/
def fq (s' : Phys nD τ sig (Elt F)) : Prop :=
  (s'.mem.mem (d, dr main_v8) = V11 m d (dr main_v8) ∧ s'.mem.mem (d, dr main_arg0) = V11 m d (dr main_arg0))
    ∧ s'.mem.mem (d, dr main_arg1) = V11 m d (dr main_arg1) ∧ s'.mem.mem (d, dr main_arg2) = V11 m d (dr main_arg2)

theorem hfin1 (s' : Phys nD τ sig (Elt F)) (r : Ref sig .tc) (hr : r.isScoped = false) :
    iprop(FIN m d ∗ SI s') ⊢ (⌜s'.mem.mem (d, dr r) = V11 m d (dr r)⌝ : sProp 𝕄) := by
  unfold FIN held
  rw [show US = insert (dr r) (US.erase (dr r)) from (Finset.insert_erase (Pipeline.devRef_mem_ucRefs hr)).symm,
    SparseCore.bigSep_insert' (Finset.notMem_erase _ _)]
  iintro ⟨⟨H, -⟩, HSI⟩
  ihave H := (SI_pointsTo_agree (st := s') (ℓ := ((SparseCore.T d).1, dr r)) (I := Finset.univ) (q := fullShare) (f := V11 m d (dr r))) $$ [HSI H]
  · isplitl [HSI] <;> iassumption
  icases H with %h
  ipureintro
  exact funext fun i => h i (Finset.mem_univ _)

theorem hfin (s' : Phys nD τ sig (Elt F)) : iprop(FIN m d ∗ SI s') ⊢ (⌜fq m d s'⌝ : sProp 𝕄) :=
  (BIClass.and_intro ((BIClass.and_intro (hfin1 m d s' main_v8 rfl) (hfin1 m d s' main_arg0 rfl)).trans pure_and.1)
    ((BIClass.and_intro (hfin1 m d s' main_arg1 rfl) (hfin1 m d s' main_arg2 rfl)).trans pure_and.1)).trans pure_and.1

/-- Every run of the program ends with its result as `outV`, its arguments as they were, and every counter at zero. -/
theorem run_main (hs : ∀ d, KeysOk (keyS m d)) :
    θ_run (Cert.KernelIdeal.defs (F := F)) (Cert.KernelIdeal.threads (F := F)) ⟨m, fun _ => 0, ρ⟩ fun r =>
      (∀ c : Dev nD, r.2.mem ((SparseCore.T c).loc main_v8) = outV m c
        ∧ r.2.mem ((SparseCore.T c).loc main_arg0) = m ((SparseCore.T c).loc main_arg0)
        ∧ r.2.mem ((SparseCore.T c).loc main_arg1) = m ((SparseCore.T c).loc main_arg1)
        ∧ r.2.mem ((SparseCore.T c).loc main_arg2) = m ((SparseCore.T c).loc main_arg2))
      ∧ r.2.sem = fun _ => 0 :=
  SparseCore.Cfg.θ_run_sc_quiescent (K := K (F := F)) (D := D (F := F)) (𝒱 := 𝒱) (EH := EH) (P := P (con m)) (A := ∅) facts v₀
    (fun q hq => match q with | 0 => nomatch hq | 1 => nomatch hq)
    (fun q _ => match q with | 0 => tileObl0 (con m) facts | 1 => tileObl1 (con m) facts hs)
    (fun q _ => SparseCore.Cfg.VecSplit.of_plain (vecSplit (con m) q))
    m ρ main (fun d => ghost (F := F) d) (FIN m) (u₀ (F := F)) (sep_elim_left.trans (hu₀ (con m))) (fun κ d => hmain m ρ d κ) (fq m) (fun d => hfin m d) _
    (fun s' h hz => ⟨fun c => ⟨(h c).1.1.trans (V11_v8 m c), (h c).1.2.trans (V11_arg0 m c),
      (h c).2.1.trans (V11_arg m c _ (Or.inl rfl)), (h c).2.2.trans (V11_arg m c _ (Or.inr rfl))⟩, hz⟩)

end Walk

end Cert.Proof.Sc

end
-- ==== Proof.Last.lean ====
/-
  What the subcores' planes hold, and what the merge makes of them: at each cell the update of the last sorted position
  whose key names it.
-/
module

public import proofs.«01_k».proof.Proof.Merge
public import proofs.«01_k».proof.Proof.Tiles
public import Idealize.ShloMosaic.Lib.LaneScatter.Pure
public import Idealize.ShloMosaic.Lib.Routing.OpsSet
public import Idealize.ShloMosaic.Lib.Routing.OpsPair
public import Idealize.ShloMosaic.Lib.ValueLayout

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 2) (Elt F) ℕ UU ℕ

open Idealize.ShloMosaic.LaneScatter (lastHit lastHit_cases lastHit_of_last lastHit_of_none lastHit_add lastHit_congr)
open Idealize.ShloMosaic.Routing (foldl_finRange_lastHit)

theorem pos_lanes : ∀ a, 0 < S16.size a := by decide
/-- Lane `k` of a register. -/
def laneN (k : ℕ) : S16.Idx := ofN S16 pos_lanes ![k]

/-- The array's entry at position `p`. -/
def valAt {α : Type} (sv : S1048576.Idx → α) (p : ℕ) : α := sv (ofN _ pos_S1048576 ![p])

/-- An indexed store read at one cell: the value of the last lane that writes it, or what was there. -/
theorem storeIdx_last [FloatOps F] {e : EltTy} (f : Vec F S16384 e) (cur : IVec S16 32) (v : Vec F S16 e) (mask : IVec S16 1)
    (h : ∀ a x, ((![cur] : Fin 1 → IVec S16 32) a x).toNat < S16384.size a) (j : S16384.Idx) :
    storeIdx (d := ![16]) f ![cur] v mask false h j
      = lastHit (fun k => mask (laneN k) = 1 ∧ (cur (laneN k)).toNat = (j 0).val) (fun k => v (laneN k)) (f j) 16 := by
  rw [← foldl_finRange_lastHit]
  unfold storeIdx
  refine (List.foldl_hom (fun g : Vec F S16384 e => g j) fun g k => ?_).symm
  have hk : Shape.ofLane (d := ![16]) k = laneN k.val := eq_ofN _ _ _ _ fun a => by obtain rfl : a = 0 := Subsingleton.elim _ _; rfl
  dsimp only
  rw [hk]
  have hc : (∀ a : Fin 1, (j a).val = (idxAt (s := S16384) (t := S16) ![cur] h (laneN k.val) a).val) ↔ (cur (laneN k.val)).toNat = (j 0).val :=
    ⟨fun q => (q 0).symm, fun q a => by obtain rfl : a = 0 := Subsingleton.elim _ _; exact q.symm⟩
  by_cases hm : mask (laneN k.val) = 1
  · rw [if_pos hm]
    by_cases hj : (cur (laneN k.val)).toNat = (j 0).val
    · rw [if_pos ⟨hm, hj⟩]; exact (if_pos (hc.2 hj)).symm
    · rw [if_neg (fun q => hj q.2)]; exact (if_neg (fun q => hj (hc.1 q))).symm
  · rw [if_neg hm, if_neg (fun q => hm q.1)]

/-- Position `p` is the last of its run of keys, and its key names cell `c`. -/
def ends (sk : S1048576.Idx → BitVec 32) (c p : ℕ) : Prop := keyAt sk p ≠ nextKeyAt sk p ∧ (keyAt sk p).toNat = c
instance (sk : S1048576.Idx → BitVec 32) (c : ℕ) : DecidablePred (ends sk c) := fun _ => by unfold ends; infer_instance

theorem ne_one_iff (a b : BitVec 32) : IntOp.cmpi .ne a b = 1 ↔ a ≠ b := by
  unfold IntOp.cmpi
  by_cases h : a = b
  · simp [h]
  · rw [bne_iff_ne.2 h]; exact ⟨fun _ => h, fun _ => rfl⟩

theorem laneN_val {k : ℕ} (hk : k < 16) : ((laneN k) 0).val = k := ofN_val _ _ _ _ hk

/-- One indexed store of the scan, read at a cell. -/
theorem store_ends [FloatOps F] {e : EltTy} {sk : S1048576.Idx → BitVec 32} (hs : KeysOk sk) (w t : ℕ) (f : Vec F S16384 e) (v : Vec F S16 e) (val : ℕ → Elt F e)
    (hv : ∀ k, k < 16 → v (laneN k) = val (32768 * w + 16 * t + k)) (j : S16384.Idx) :
    storeIdx (d := ![16]) f ![curV sk w t] v (cmpi .ne (curV sk w t) (nxtV sk w t)) false (curV_inb hs w t) j
      = lastHit (fun k => ends sk (j 0).val (32768 * w + 16 * t + k)) (fun k => val (32768 * w + 16 * t + k)) (f j) 16 := by
  rw [storeIdx_last]
  refine lastHit_congr _ (fun k hk => ?_) fun k hk _ => hv k hk
  unfold ends
  rw [← ne_one_iff]
  show IntOp.cmpi .ne (keyAt sk (32768 * w + 16 * t + ((laneN k) 0).val)) (nextKeyAt sk (32768 * w + 16 * t + ((laneN k) 0).val)) = 1
    ∧ (keyAt sk (32768 * w + 16 * t + ((laneN k) 0).val)).toNat = (j 0).val ↔ _
  rw [laneN_val hk]

theorem step_last {α : Type} (hit : ℕ → Prop) [DecidablePred hit] (val : ℕ → α) (z : α) (w t : ℕ) :
    lastHit (fun k => hit (32768 * w + 16 * t + k)) (fun k => val (32768 * w + 16 * t + k))
      (lastHit (fun k => hit (32768 * w + k)) (fun k => val (32768 * w + k)) z (16 * t)) 16
      = lastHit (fun k => hit (32768 * w + k)) (fun k => val (32768 * w + k)) z (16 * (t + 1)) := by
  rw [show 16 * (t + 1) = 16 * t + 16 from by omega, lastHit_add]
  refine lastHit_congr _ (fun k _ => ?_) fun k _ _ => ?_
  · rw [Nat.add_assoc]
  · rw [Nat.add_assoc]

/-- The mark plane after `t` trips: one at the cells a run ended at, zero elsewhere. -/
theorem markPlane_last {sk : S1048576.Idx → BitVec 32} (hs : KeysOk sk) (w : ℕ) (j : S16384.Idx) : ∀ t,
    markPlane sk w t j = lastHit (fun k => ends sk (j 0).val (32768 * w + k)) (fun _ => 1#32) 0#32 (16 * t)
  | 0 => rfl
  | t + 1 => by
    unfold markPlane
    rw [dif_pos (curV_inb hs w t)]
    refine (store_ends (F := Bits) (e := .i32) hs w t (markPlane sk w t) (broadcast S16 1#32) (fun _ => 1#32) (fun _ _ => rfl) j).trans ?_
    rw [markPlane_last hs w j t]
    exact step_last _ (fun _ => 1#32) _ w t

/-- The value plane after `t` trips: at each cell the update of the last run that ended there. -/
theorem valPlane_last [FloatOps F] {sk : S1048576.Idx → BitVec 32} (hs : KeysOk sk) (sv : S1048576.Idx → Elt F .f32) (w : ℕ) (j : S16384.Idx) : ∀ t,
    valPlane sk sv w t j
      = lastHit (fun k => ends sk (j 0).val (32768 * w + k)) (fun k => valAt sv (32768 * w + k)) (Scalar.ofBits .f32 0x00000000#32) (16 * t)
  | 0 => rfl
  | t + 1 => by
    unfold valPlane
    rw [dif_pos (curV_inb hs w t)]
    refine (store_ends (F := F) (e := .f32) hs w t (valPlane sk sv w t) (valV sv w t) (valAt sv) (fun k hk => ?_) j).trans ?_
    · show sv (ofN _ pos_S1048576 ![32768 * w + 16 * t + ((laneN k) 0).val]) = _
      rw [laneN_val hk]; rfl
    · rw [valPlane_last hs sv w j t]
      exact step_last _ (valAt sv) _ w t

/-- Taking a plane's value where its mark is set, and else what lies below, is to go on with the last hit. -/
theorem choose_last {α : Type} (hit : ℕ → Prop) [DecidablePred hit] (val : ℕ → α) (z acc : α) (n : ℕ) :
    (if lastHit hit (fun _ => 1#32) 0#32 n ≠ 0#32 then lastHit hit val z n else acc) = lastHit hit val acc n := by
  rcases lastHit_cases hit (fun _ => 1#32) 0#32 n with ⟨k, hk, hh, hl, hv⟩ | ⟨hn, hv⟩
  · rw [hv, if_pos (by decide), lastHit_of_last val z hh hk hl, lastHit_of_last val acc hh hk hl]
  · rw [hv, if_neg (fun h => h rfl), lastHit_of_none val acc hn]

/-- The cell of a place of the patch. -/
def cellOf (x : S128x128.Idx) : ℕ := (x 0).val * 128 + (x 1).val

/-- The first `t` planes laid over the patch: at each place the update of the last run of the first `t` chunks that ended there. -/
theorem merged_last {α : Type} (sk : S1048576.Idx → BitVec 32) (val : ℕ → α) (z : α) (mk : S32x128x128.Idx → BitVec 32) (vl : S32x128x128.Idx → α)
    (X : S128x128.Idx → α) (x : S128x128.Idx)
    (hmk : ∀ w, w < 32 → mk (atPlane w x) = lastHit (fun k => ends sk (cellOf x) (32768 * w + k)) (fun _ => 1#32) 0#32 32768)
    (hvl : ∀ w, w < 32 → vl (atPlane w x) = lastHit (fun k => ends sk (cellOf x) (32768 * w + k)) (fun k => val (32768 * w + k)) z 32768) :
    ∀ t, t ≤ 32 → merged mk vl X t x = lastHit (ends sk (cellOf x)) val (X x) (32768 * t)
  | 0, _ => rfl
  | t + 1, ht => by
    rw [show 32768 * (t + 1) = 32768 * t + 32768 from by omega, lastHit_add, ← merged_last sk val z mk vl X x hmk hvl t (by omega)]
    show (if mk (atPlane t x) ≠ 0#32 then vl (atPlane t x) else merged mk vl X t x) = _
    rw [hmk t (by omega), hvl t (by omega), choose_last]

/-- Of the positions whose keys name a cell the last ends its run. -/
theorem last_ends {α : Type} {sk : S1048576.Idx → BitVec 32} (hs : KeysOk sk) (val : ℕ → α) (z : α) (c : ℕ) :
    lastHit (ends sk c) val z 1048576 = lastHit (fun p => (keyAt sk p).toNat = c) val z 1048576 := by
  rcases lastHit_cases (fun p => (keyAt sk p).toNat = c) val z 1048576 with ⟨k, hk, hh, hl, hv⟩ | ⟨hn, hv⟩
  · rw [hv]
    refine lastHit_of_last val z ⟨fun e => ?_, hh⟩ hk fun j h1 h2 q => hl j h1 h2 q.2
    unfold nextKeyAt at e
    by_cases hp : k + 1 < 1048576
    · rw [if_pos hp] at e
      exact hl (k + 1) (by omega) hp (by rw [← e]; exact hh)
    · rw [if_neg hp] at e
      have := hs (ofN _ pos_S1048576 ![k])
      rw [show sk (ofN _ pos_S1048576 ![k]) = -2#32 from e] at this
      exact absurd this (by decide)
  · rw [hv]
    exact lastHit_of_none val z fun k hk q => hn k hk q.2

/-- A stack of planes is the array of them, each read row by row. -/
theorem stack_apply {α : Type} (g : S32x16384.Idx → α) (w : ℕ) (hw : w < 32) (x : S128x128.Idx) :
    shapeCast S32x128x128 g shapeCasts_S32x16384_S32x128x128 (atPlane w x) = g (ofN S32x16384 pos_S32x16384 ![w, cellOf x]) := by
  have h0 : (x 0).val < 128 := (x 0).isLt
  have h1 : (x 1).val < 128 := (x 1).isLt
  have hc : cellOf x < 16384 := by unfold cellOf; omega
  have e0 : ((atPlane w x) 0).val = w := ofN_val _ _ _ _ hw
  have e1 : ((atPlane w x) 1).val = (x 0).val := ofN_val _ _ _ _ h0
  have e2 : ((atPlane w x) 2).val = (x 1).val := ofN_val _ _ _ _ h1
  have f0 : ((ofN S32x16384 pos_S32x16384 ![w, cellOf x]) 0).val = w := ofN_val _ _ _ _ hw
  have f1 : ((ofN S32x16384 pos_S32x16384 ![w, cellOf x]) 1).val = cellOf x := ofN_val _ _ _ _ hc
  refine shapeCast_apply _ _ _ _ ?_
  rw [Shape.rowMajor_val_two, Shape.rowMajor_val_three, e0, e1, e2, f0, f1]
  show w * 16384 + cellOf x = (w * 128 + (x 0).val) * 128 + (x 1).val
  unfold cellOf; omega

/-- The merge of the 32 subcores' planes: at each place the update of the last sorted position whose key names it, or the patch. -/
theorem merged_planes [FloatOps F] {sk : S1048576.Idx → BitVec 32} (hs : KeysOk sk) (sv : S1048576.Idx → Elt F .f32) (X : S128x128.Idx → Elt F .f32)
    (x : S128x128.Idx) :
    merged (α := Elt F .f32) (shapeCast S32x128x128 (markArr sk) shapeCasts_S32x16384_S32x128x128)
      (shapeCast S32x128x128 (valArr (F := F) sk sv) shapeCasts_S32x16384_S32x128x128) X 32 x
      = lastHit (fun p => (keyAt sk p).toNat = cellOf x) (valAt sv) (X x) 1048576 := by
  have h0 : (x 0).val < 128 := (x 0).isLt
  have h1 : (x 1).val < 128 := (x 1).isLt
  have hc : cellOf x < 16384 := by unfold cellOf; omega
  have fx : ∀ w, w < 32 → ((ofN S32x16384 pos_S32x16384 ![w, cellOf x]) 0).val = w := fun w hw => ofN_val _ _ _ _ hw
  have fc : ∀ w, ((ofN S32x16384 pos_S32x16384 ![w, cellOf x]) 1).val = cellOf x := fun w => ofN_val _ _ _ _ hc
  have fj : ((ofN S16384 pos_S16384 ![cellOf x]) 0).val = cellOf x := ofN_val _ _ _ _ hc
  rw [← last_ends hs]
  refine merged_last sk (valAt sv) (Scalar.ofBits (F := F) .f32 0x00000000#32) _ _ X x (fun w hw => ?_) (fun w hw => ?_) 32 le_rfl
  · rw [stack_apply _ w hw]
    unfold markArr
    rw [fx w hw, fc w, markPlane_last hs, fj]
  · rw [stack_apply _ w hw]
    unfold valArr
    rw [fx w hw, fc w, valPlane_last hs, fj]

end Cert.Proof.Sc

end
-- ==== Proof.Sorts.lean ====
/-
  The sort moves the keys and the updates alike, and loses none; and what the keys and the updates are before it.
-/
module

public import proofs.«01_k».proof.Proof.Last
public import Idealize.ShloMosaic.Lib.SortFacts

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.LaneScatter (lastHit lastHit_cases lastHit_of_last lastHit_of_none lastHit_add lastHit_congr)
open Idealize.ShloMosaic.ShareLeaves (leaf pointsTo_leaves)

variable {F : FTy → Type}

local notation "𝕄" => MT nD τ sig (HIx 2) (Elt F) ℕ UU ℕ

/-- The unstable sort of keys and updates is one permutation of the positions, applied to both. -/
theorem sort_perm {α : Type} (cmp : BitVec 32 × α → BitVec 32 × α → BitVec 1) (x : S1048576.Idx → BitVec 32) (y : S1048576.Idx → α) :
    ∃ σ : Fin 1048576 → Fin 1048576, Function.Bijective σ
      ∧ (∀ k, (Host.unstableSort2 S1048576 0 cmp x y).1 (ix1 k) = x (ix1 (σ k)))
      ∧ (∀ k, (Host.unstableSort2 S1048576 0 cmp x y).2 (ix1 k) = y (ix1 (σ k))) := by
  have ha : ∀ (j : S1048576.Idx) (k : Fin 1048576), j.along 0 k = ix1 k := fun j k => by
    funext a
    obtain rfl : a = 0 := Subsingleton.elim _ _
    exact Function.update_self _ _ _
  have hj : ∀ j : S1048576.Idx, (fun k => (x (j.along 0 k), y (j.along 0 k))) = fun k : Fin 1048576 => (x (ix1 k), y (ix1 k)) := fun j =>
    funext fun k => Prod.ext (congrArg x (ha j k)) (congrArg y (ha j k))
  refine ⟨sortedFrom (unstableBefore S1048576 0 cmp fun k : Fin 1048576 => (x (ix1 k), y (ix1 k))),
    ⟨sortedFrom_injective _, sortedFrom_surjective _⟩, fun k => ?_, fun k => ?_⟩
  · unfold Host.unstableSort2
    rw [dif_pos (show 0 < S1048576.rank from Nat.one_pos)]
    exact (congrArg x (ha (ix1 k) _)).trans (congrArg (fun f => x (ix1 (sortedFrom (unstableBefore S1048576 0 cmp f) k))) (hj (ix1 k)))
  · unfold Host.unstableSort2
    rw [dif_pos (show 0 < S1048576.rank from Nat.one_pos)]
    exact (congrArg y (ha (ix1 k) _)).trans (congrArg (fun f => y (ix1 (sortedFrom (unstableBefore S1048576 0 cmp f) k))) (hj (ix1 k)))

theorem ofN_eq_ix1 (p : ℕ) (hp : p < 1048576) : ofN S1048576 pos_S1048576 ![p] = ix1 ⟨p, hp⟩ :=
  (eq_ofN _ _ _ _ fun a => by obtain rfl : a = 0 := Subsingleton.elim _ _; rfl).symm

/-- Where at most one position's key names a cell, the sort does not change which update the cell gets. -/
theorem last_sorted {α : Type} (cmp : BitVec 32 × α → BitVec 32 × α → BitVec 1) (x : S1048576.Idx → BitVec 32) (y : S1048576.Idx → α) (c : ℕ) (z : α)
    (h1 : ∀ p q, p < 1048576 → q < 1048576 → (keyAt x p).toNat = c → (keyAt x q).toNat = c → p = q) :
    lastHit (fun p => (keyAt (Host.unstableSort2 S1048576 0 cmp x y).1 p).toNat = c) (valAt (Host.unstableSort2 S1048576 0 cmp x y).2) z 1048576
      = lastHit (fun p => (keyAt x p).toNat = c) (valAt y) z 1048576 := by
  obtain ⟨σ, hσ, e1, e2⟩ := sort_perm cmp x y
  have k1 : ∀ p (hp : p < 1048576), keyAt (Host.unstableSort2 S1048576 0 cmp x y).1 p = keyAt x (σ ⟨p, hp⟩).val := fun p hp => by
    unfold keyAt; rw [ofN_eq_ix1 p hp, ofN_eq_ix1 _ (σ ⟨p, hp⟩).isLt, e1]
  have k2 : ∀ p (hp : p < 1048576), valAt (Host.unstableSort2 S1048576 0 cmp x y).2 p = valAt y (σ ⟨p, hp⟩).val := fun p hp => by
    unfold valAt; rw [ofN_eq_ix1 p hp, ofN_eq_ix1 _ (σ ⟨p, hp⟩).isLt, e2]
  rcases lastHit_cases (fun p => (keyAt x p).toNat = c) (valAt y) z 1048576 with ⟨k, hk, hh, hl, hv⟩ | ⟨hn, hv⟩
  · obtain ⟨q, hq⟩ := hσ.2 ⟨k, hk⟩
    rw [hv]
    refine (lastHit_of_last (valAt (Host.unstableSort2 S1048576 0 cmp x y).2) z (k := q.val)
      (show (keyAt _ q.val).toNat = c by rw [k1 q.val q.isLt, hq]; exact hh) q.isLt fun j hj hj' hc => ?_).trans ?_
    · rw [k1 j hj'] at hc
      have : σ ⟨j, hj'⟩ = ⟨k, hk⟩ := Fin.ext (h1 _ _ (σ ⟨j, hj'⟩).isLt hk hc hh)
      have : (⟨j, hj'⟩ : Fin 1048576) = q := hσ.1 (this.trans hq.symm)
      rw [← this] at hj
      exact absurd hj (lt_irrefl _)
    · rw [k2 q.val q.isLt, hq]
  · rw [hv]
    exact lastHit_of_none _ z fun k hk hc => hn _ (σ ⟨k, hk⟩).isLt (by rw [k1 k hk] at hc; exact hc)

/-- The sorted keys are keys. -/
theorem sorted_ok {α : Type} (cmp : BitVec 32 × α → BitVec 32 × α → BitVec 1) (x : S1048576.Idx → BitVec 32) (y : S1048576.Idx → α) (h : KeysOk x) :
    KeysOk (Host.unstableSort2 S1048576 0 cmp x y).1 := fun p => by
  obtain ⟨σ, -, e1, -⟩ := sort_perm cmp x y
  have hp : p = ix1 (p 0) := funext fun a => by obtain rfl : a = 0 := Subsingleton.elim _ _; rfl
  exact (congrArg BitVec.toNat ((congrArg _ hp).trans (e1 (p 0)))).trans_lt (h _)

/-- The indices are those the arguments are drawn from. -/
def InRange (I : S262144x4x2.Idx → BitVec 32) : Prop := ∀ i, (I i).toNat < 128

theorem pos_S262144x4x2 : ∀ a, 0 < S262144x4x2.size a := by decide
theorem pos_S262144x4 : ∀ a, 0 < S262144x4.size a := by decide

/-- The index word `k` of update `p`. -/
def wordAt (I : S262144x4x2.Idx → BitVec 32) (k p : ℕ) : BitVec 32 := I (ofN S262144x4x2 pos_S262144x4x2 ![p / 4, p % 4, k])

theorem key_words (I : S262144x4x2.Idx → BitVec 32) (p : ℕ) (hp : p < 1048576) :
    keyAt (keysOf (transpose S4x2x262144 [1, 2, 0] I transposes_S262144x4x2_S4x2x262144_1_2_0)) p = wordAt I 0 p * 128#32 + wordAt I 1 p := by
  have e : ∀ k, k < 2 → transpose S4x2x262144 [1, 2, 0] I transposes_S262144x4x2_S4x2x262144_1_2_0 (ofN _ pos_S4x2x262144 ![p % 4, k, p / 4]) = wordAt I k p := by
    intro k hk
    refine congrArg I (eq_ofN _ _ _ _ fun a => ?_)
    match a with
    | 0 => exact ofN_val S4x2x262144 pos_S4x2x262144 ![p % 4, k, p / 4] 2 (show p / 4 < 262144 by omega)
    | 1 => exact ofN_val S4x2x262144 pos_S4x2x262144 ![p % 4, k, p / 4] 0 (show p % 4 < 4 by omega)
    | 2 => exact ofN_val S4x2x262144 pos_S4x2x262144 ![p % 4, k, p / 4] 1 hk
  unfold keyAt keysOf
  rw [ofN_val S1048576 pos_S1048576 ![p] 0 hp]
  show transpose S4x2x262144 [1, 2, 0] I _ (ofN _ pos_S4x2x262144 ![p % 4, 0, p / 4]) * 128#32 + transpose S4x2x262144 [1, 2, 0] I _ (ofN _ pos_S4x2x262144 ![p % 4, 1, p / 4]) = _
  rw [e 0 (by decide), e 1 (by decide)]

theorem lin_val {α : Type} (U : S262144x4.Idx → α) (p : ℕ) (hp : p < 1048576) :
    valAt (linOf (transpose S4x262144 [1, 0] U transposes_S262144x4_S4x262144_1_0)) p = U (ofN S262144x4 pos_S262144x4 ![p / 4, p % 4]) := by
  unfold valAt linOf
  rw [ofN_val S1048576 pos_S1048576 ![p] 0 hp]
  refine congrArg U (eq_ofN _ _ _ _ fun a => ?_)
  match a with
  | 0 => exact ofN_val S4x262144 pos_S4x262144 ![p % 4, p / 4] 1 (show p / 4 < 262144 by omega)
  | 1 => exact ofN_val S4x262144 pos_S4x262144 ![p % 4, p / 4] 0 (show p % 4 < 4 by omega)

/-- A key read as a number. -/
theorem key_toNat {I : S262144x4x2.Idx → BitVec 32} (h : InRange I) (p : ℕ) (hp : p < 1048576) :
    (keyAt (keysOf (transpose S4x2x262144 [1, 2, 0] I transposes_S262144x4x2_S4x2x262144_1_2_0)) p).toNat = (wordAt I 0 p).toNat * 128 + (wordAt I 1 p).toNat := by
  rw [key_words I p hp]
  have h0 : (wordAt I 0 p).toNat < 128 := h _
  have h1 : (wordAt I 1 p).toNat < 128 := h _
  rw [BitVec.toNat_add, BitVec.toNat_mul, BitVec.toNat_ofNat]
  omega

theorem keys_ok {I : S262144x4x2.Idx → BitVec 32} (h : InRange I) :
    KeysOk (keysOf (transpose S4x2x262144 [1, 2, 0] I transposes_S262144x4x2_S4x2x262144_1_2_0)) := fun p => by
  have hp : (p 0).val < 1048576 := (p 0).isLt
  have e := key_toNat h (p 0).val hp
  have h0 : (wordAt I 0 (p 0).val).toNat < 128 := h _
  have h1 : (wordAt I 1 (p 0).val).toNat < 128 := h _
  rw [show keyAt _ (p 0).val = keysOf (transpose S4x2x262144 [1, 2, 0] I transposes_S262144x4x2_S4x2x262144_1_2_0) p from
    congrArg _ (eq_ofN _ _ _ _ fun a => by obtain rfl : a = 0 := Subsingleton.elim _ _; rfl).symm] at e
  omega

end Cert.Proof.Sc

end
-- ==== Proof.Scatters.lean ====
/-
  The plain scatters read at a cell: each holds there the update of the last position, in its own order, that names the cell.
-/
module

public import proofs.«01_k».proof.Proof.Sorts
public import proofs.«01_k».proof.Proof.Gen.OrderedIdeal.Run
public import proofs.«01_k».proof.Proof.Gen.ReferenceIdeal.Run

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.LaneScatter (lastHit lastHit_cases lastHit_of_last lastHit_of_none lastHit_add lastHit_congr)
open Idealize.ShloMosaic.Routing (foldl_finRange_lastHit scatter_at resultIdx?_ix1 scatter_lands2)
open Idealize.ShloMosaic.ShareLeaves (leaf pointsTo_leaves)

variable {F : FTy → Type}

local notation "𝕄" => MT nD τ sig (HIx 2) (Elt F) ℕ UU ℕ

/-- A fold over the positions of an array of `N` entries that takes a value at each hit ends at the last. -/
theorem foldl_last {α : Type} (hit : ℕ → Prop) [DecidablePred hit] (val : ℕ → α) (z : α) {M : ℕ} (N : ℕ) (hM : M = N) (g : α → Fin M → α)
    (hg : ∀ a n, g a n = if hit n.val then val n.val else a) : (List.finRange M).foldl g z = lastHit hit val z N := by
  subst hM
  rw [← foldl_finRange_lastHit]
  exact congrArg (fun f => (List.finRange M).foldl f z) (funext fun a => funext fun n => hg a n)

theorem flat_lands (idx : IVec Cert.OrderedIdeal.S1048576x1 32) (n : Fin 1048576) (e : Fin 33554432) :
    (Cert.OrderedIdeal.scatter_S33554432_S1048576x1_S1048576_n_0_0_1).resultIdx? (ix1 n) idx = some (ix1 e)
      ↔ (idx (ix2 n (0 : Fin 1))).toInt = (e.val : Int) := by
  rw [resultIdx?_ix1]
  have hw : (Cert.OrderedIdeal.scatter_S33554432_S1048576x1_S1048576_n_0_0_1).window (ix1 n) 0 = 0 := by
    unfold ScatterDims.window
    exact dif_neg (by decide)
  have hs : (Cert.OrderedIdeal.scatter_S33554432_S1048576x1_S1048576_n_0_0_1).start (ix1 n) idx 0 = (idx (ix2 n (0 : Fin 1))).toInt := by
    unfold ScatterDims.start
    refine (dif_pos (by decide)).trans (congrArg (fun i => (idx i).toInt) (funext fun b => ?_))
    match b with
    | 0 => rfl
    | 1 => rfl
  rw [hw, hs]
  simp

/-- A word below 2³¹, read signed. -/
theorem toInt_small {x : BitVec 32} (h : x.toNat < 2147483648) : x.toInt = (x.toNat : Int) := by
  rw [BitVec.toInt_eq_toNat_cond]
  rw [if_pos (by omega)]

/-- The wrap of a negative index leaves a word below 2³¹. -/
theorem wrap_small (x a : BitVec 32) (h : x.toNat < 2147483648) : Scalar.select (IntOp.cmpi .slt x 0#32) a x = x :=
  Idealize.ShloMosaic.Routing.wrap_of_lt x a h

theorem numel_N : Cert.OrderedIdeal.S1048576.numel = 1048576 := Idealize.ShloMosaic.Routing.numel1 1048576

/-- The place of row `r`, column `c` of the result. -/
def flatOf (i : S262144x128.Idx) : ℕ := (i 0).val * 128 + (i 1).val

/-- The scatter of values at keys over the flattened operand, read at a cell: the value of the last key that names it. -/
theorem ordered_last {α : Type} (X : S262144x128.Idx → α) (K : S1048576.Idx → BitVec 32) (hK : KeysOk K) (V : S1048576.Idx → α)
    (i : S262144x128.Idx) :
    shapeCast Cert.OrderedIdeal.S262144x128 (Host.scatter Cert.OrderedIdeal.scatter_S33554432_S1048576x1_S1048576_n_0_0_1 (fun _ b => b)
        (shapeCast Cert.OrderedIdeal.S33554432 X Cert.OrderedIdeal.Facts₀.shapeCasts_S262144x128_S33554432)
        (broadcastInDim Cert.OrderedIdeal.S1048576x1 ![0] Cert.OrderedIdeal.Facts₀.bcast_S1048576_S1048576x1_0
          (select (cmpi .slt K (broadcastInDim Cert.OrderedIdeal.S1048576 ![] Cert.OrderedIdeal.Facts₀.bcast_S_S1048576 (constantI Cert.OrderedIdeal.S_ 32 0#32)))
            (addi K (broadcastInDim Cert.OrderedIdeal.S1048576 ![] Cert.OrderedIdeal.Facts₀.bcast_S_S1048576 (constantI Cert.OrderedIdeal.S_ 32 33554432#32))) K)) V)
      Cert.OrderedIdeal.Facts₀.shapeCasts_S33554432_S262144x128 i
      = lastHit (fun p => (keyAt K p).toNat = flatOf i) (valAt V) (X i) 1048576 := by
  have h0 : (i 0).val < 262144 := (i 0).isLt
  have h1 : (i 1).val < 128 := (i 1).isLt
  have hf : flatOf i < 33554432 := by unfold flatOf; omega
  refine (shapeCast_apply _ _ i (ix1 ⟨flatOf i, hf⟩) ?_).trans ?_
  · rw [Shape.rowMajor_val_one, Shape.rowMajor_val_two]; rfl
  have hX : shapeCast Cert.OrderedIdeal.S33554432 X Cert.OrderedIdeal.Facts₀.shapeCasts_S262144x128_S33554432 (ix1 ⟨flatOf i, hf⟩) = X i := by
    refine shapeCast_apply _ _ _ _ ?_
    rw [Shape.rowMajor_val_one, Shape.rowMajor_val_two]; rfl
  rw [scatter_at, hX]
  refine foldl_last _ _ _ 1048576 numel_N _ fun a n => ?_
  have hn : n.val < 1048576 := n.isLt.trans_eq numel_N
  have hp : Cert.OrderedIdeal.S1048576.rowMajor.symm n = ix1 ⟨n.val, hn⟩ := Idealize.ShloMosaic.Routing.symm1 n
  have hk : K (ix1 ⟨n.val, hn⟩) = keyAt K n.val := by unfold keyAt; rw [ofN_eq_ix1 n.val hn]
  have hv : V (ix1 ⟨n.val, hn⟩) = valAt V n.val := by unfold valAt; rw [ofN_eq_ix1 n.val hn]
  have hs : (keyAt K n.val).toNat < 16384 := hK _
  rw [hp]
  refine (if_congr ((flat_lands _ ⟨n.val, hn⟩ ⟨flatOf i, hf⟩).trans ?_) hv rfl)
  have e : broadcastInDim Cert.OrderedIdeal.S1048576x1 ![0] Cert.OrderedIdeal.Facts₀.bcast_S1048576_S1048576x1_0
          (select (cmpi .slt K (broadcastInDim Cert.OrderedIdeal.S1048576 ![] Cert.OrderedIdeal.Facts₀.bcast_S_S1048576 (constantI Cert.OrderedIdeal.S_ 32 0#32)))
            (addi K (broadcastInDim Cert.OrderedIdeal.S1048576 ![] Cert.OrderedIdeal.Facts₀.bcast_S_S1048576 (constantI Cert.OrderedIdeal.S_ 32 33554432#32))) K)
          (ix2 (⟨n.val, hn⟩ : Fin 1048576) (0 : Fin 1)) = keyAt K n.val := by
    refine (broadcastInDim_apply _ _ _ _ (ix1 ⟨n.val, hn⟩) fun a => ?_).trans ?_
    · obtain rfl : a = 0 := Subsingleton.elim _ _
      exact (if_neg (by decide)).symm
    · rw [← hk] at hs ⊢
      exact wrap_small _ _ (by omega)
  rw [e, toInt_small (by omega)]
  exact Int.ofNat_inj

/-- The pairs of index words the plain scatter reads: the two words of each update, a negative one wrapped. -/
def pairsOf (I : S262144x4x2.Idx → BitVec 32) : IVec Cert.ReferenceIdeal.S262144x4x2 32 :=
  concatenate Cert.ReferenceIdeal.S262144x4x2 2
    [⟨Cert.ReferenceIdeal.S262144x4x1, broadcastInDim Cert.ReferenceIdeal.S262144x4x1 ![0, 1] Cert.ReferenceIdeal.Facts₀.bcast_S262144x4_S262144x4x1_0_1
        (select (cmpi .slt (shapeCast _ (extractStridedSlice Cert.ReferenceIdeal.S262144x4x1 ![0, 0, 0] I Cert.ReferenceIdeal.Facts₀.slices_S262144x4x2_S262144x4x1_0_0_0) Cert.ReferenceIdeal.Facts₀.shapeCasts_S262144x4x1_S262144x4)
            (broadcastInDim Cert.ReferenceIdeal.S262144x4 ![] Cert.ReferenceIdeal.Facts₀.bcast_S_S262144x4 (constantI Cert.ReferenceIdeal.S_ 32 0#32)))
          (addi (shapeCast _ (extractStridedSlice Cert.ReferenceIdeal.S262144x4x1 ![0, 0, 0] I Cert.ReferenceIdeal.Facts₀.slices_S262144x4x2_S262144x4x1_0_0_0) Cert.ReferenceIdeal.Facts₀.shapeCasts_S262144x4x1_S262144x4)
            (broadcastInDim Cert.ReferenceIdeal.S262144x4 ![] Cert.ReferenceIdeal.Facts₀.bcast_S_S262144x4 (constantI Cert.ReferenceIdeal.S_ 32 262144#32)))
          (shapeCast _ (extractStridedSlice Cert.ReferenceIdeal.S262144x4x1 ![0, 0, 0] I Cert.ReferenceIdeal.Facts₀.slices_S262144x4x2_S262144x4x1_0_0_0) Cert.ReferenceIdeal.Facts₀.shapeCasts_S262144x4x1_S262144x4))⟩,
     ⟨Cert.ReferenceIdeal.S262144x4x1, broadcastInDim Cert.ReferenceIdeal.S262144x4x1 ![0, 1] Cert.ReferenceIdeal.Facts₀.bcast_S262144x4_S262144x4x1_0_1
        (select (cmpi .slt (shapeCast _ (extractStridedSlice Cert.ReferenceIdeal.S262144x4x1 ![0, 0, 1] I Cert.ReferenceIdeal.Facts₀.slices_S262144x4x2_S262144x4x1_0_0_1) Cert.ReferenceIdeal.Facts₀.shapeCasts_S262144x4x1_S262144x4)
            (broadcastInDim Cert.ReferenceIdeal.S262144x4 ![] Cert.ReferenceIdeal.Facts₀.bcast_S_S262144x4 (constantI Cert.ReferenceIdeal.S_ 32 0#32)))
          (addi (shapeCast _ (extractStridedSlice Cert.ReferenceIdeal.S262144x4x1 ![0, 0, 1] I Cert.ReferenceIdeal.Facts₀.slices_S262144x4x2_S262144x4x1_0_0_1) Cert.ReferenceIdeal.Facts₀.shapeCasts_S262144x4x1_S262144x4)
            (broadcastInDim Cert.ReferenceIdeal.S262144x4 ![] Cert.ReferenceIdeal.Facts₀.bcast_S_S262144x4 (constantI Cert.ReferenceIdeal.S_ 32 128#32)))
          (shapeCast _ (extractStridedSlice Cert.ReferenceIdeal.S262144x4x1 ![0, 0, 1] I Cert.ReferenceIdeal.Facts₀.slices_S262144x4x2_S262144x4x1_0_0_1) Cert.ReferenceIdeal.Facts₀.shapeCasts_S262144x4x1_S262144x4))⟩]
    Cert.ReferenceIdeal.Facts₀.concatenates_S262144x4x1_S262144x4x1_S262144x4x2_d2

theorem col_apply {α : Type} (x : S262144x4.Idx → α) (a : Fin 262144) (b : Fin 4) :
    broadcastInDim Cert.ReferenceIdeal.S262144x4x1 ![0, 1] Cert.ReferenceIdeal.Facts₀.bcast_S262144x4_S262144x4x1_0_1 x (ix3 a b (0 : Fin 1)) = x (ix2 a b) :=
  broadcastInDim_apply _ _ _ _ _ fun q => match q with
    | 0 => (if_neg (by decide)).symm
    | 1 => (if_neg (by decide)).symm

theorem word_slice (I : S262144x4x2.Idx → BitVec 32) (k : Fin 2) (h : S262144x4x2.Slices ![0, 0, k.val] Cert.ReferenceIdeal.S262144x4x1)
    (a : Fin 262144) (b : Fin 4) :
    shapeCast Cert.ReferenceIdeal.S262144x4 (extractStridedSlice Cert.ReferenceIdeal.S262144x4x1 ![0, 0, k.val] I h) Cert.ReferenceIdeal.Facts₀.shapeCasts_S262144x4x1_S262144x4 (ix2 a b)
      = I (ix3 a b k) := by
  refine (shapeCast_apply _ _ _ (ix3 a b (0 : Fin 1)) ?_).trans (extractStridedSlice_apply _ _ _ _ _ fun q => ?_)
  · rw [Shape.rowMajor_val_three, Shape.rowMajor_val_two]
    show (a.val * 4 + b.val) * 1 + 0 = a.val * 4 + b.val
    omega
  · match q with
    | 0 => exact (Nat.zero_add _).symm
    | 1 => exact (Nat.zero_add _).symm
    | 2 => rfl

theorem pairs_word {I : S262144x4x2.Idx → BitVec 32} (h : InRange I) (a : Fin 262144) (b : Fin 4) (k : Fin 2) :
    pairsOf I (ix3 a b k) = I (ix3 a b k) := by
  have hs : (I (ix3 a b k)).toNat < 128 := h _
  unfold pairsOf
  match k with
  | 0 =>
    refine (concatenate_pair_apply_left (s₁ := Cert.ReferenceIdeal.S262144x4x1) (s₂ := Cert.ReferenceIdeal.S262144x4x1) (t := Cert.ReferenceIdeal.S262144x4x2) 2 _ _ Cert.ReferenceIdeal.Facts₀.concatenates_S262144x4x1_S262144x4x1_S262144x4x2_d2 (ix3 a b 0) rfl (ix3 a b (0 : Fin 1)) fun q => ?_).trans ((col_apply _ a b).trans ?_)
    · match q with
      | 0 => rfl
      | 1 => rfl
      | 2 => rfl
    · have e := word_slice I 0 Cert.ReferenceIdeal.Facts₀.slices_S262144x4x2_S262144x4x1_0_0_0 a b
      refine (wrap_small _ _ ?_).trans e
      exact (congrArg BitVec.toNat e).trans_lt (by omega)
  | 1 =>
    refine (concatenate_pair_apply_right (s₁ := Cert.ReferenceIdeal.S262144x4x1) (s₂ := Cert.ReferenceIdeal.S262144x4x1) (t := Cert.ReferenceIdeal.S262144x4x2) 2 _ _ Cert.ReferenceIdeal.Facts₀.concatenates_S262144x4x1_S262144x4x1_S262144x4x2_d2 (ix3 a b 1) rfl rfl (ix3 a b (0 : Fin 1)) (fun q hq => ?_) rfl).trans ((col_apply _ a b).trans ?_)
    · match q with
      | 0 => rfl
      | 1 => rfl
      | 2 => exact absurd rfl hq
    · have e := word_slice I 1 Cert.ReferenceIdeal.Facts₀.slices_S262144x4x2_S262144x4x1_0_0_1 a b
      refine (wrap_small _ _ ?_).trans e
      exact (congrArg BitVec.toNat e).trans_lt (by omega)

theorem numel_M : Cert.ReferenceIdeal.S262144x4.numel = 1048576 := by
  show ∏ a : Fin 2, (![262144, 4] : Fin 2 → Nat) a = 1048576
  rw [Fin.prod_univ_two]
  rfl

/-- The keys before the sort, as the program's first kernel makes them. -/
abbrev keys (I : S262144x4x2.Idx → BitVec 32) : S1048576.Idx → BitVec 32 :=
  keysOf (transpose S4x2x262144 [1, 2, 0] I transposes_S262144x4x2_S4x2x262144_1_2_0)
/-- The updates in the same order. -/
abbrev upds {α : Type} (U : S262144x4.Idx → α) : S1048576.Idx → α := linOf (transpose S4x262144 [1, 0] U transposes_S262144x4_S4x262144_1_0)

/-- Update `n` of the plain scatter lands at a cell exactly when its key names it. -/
theorem pair_lands {I : S262144x4x2.Idx → BitVec 32} (h : InRange I) (n : Fin Cert.ReferenceIdeal.S262144x4.numel) (i : S262144x128.Idx) :
    (Cert.ReferenceIdeal.scatter_S262144x128_S262144x4x2_S262144x4_n_01_01_2).resultIdx? (Cert.ReferenceIdeal.S262144x4.rowMajor.symm n) (pairsOf I) = some i
      ↔ (keyAt (keys I) n.val).toNat = flatOf i := by
  have hn : n.val < 1048576 := n.isLt.trans_eq numel_M
  have h0 : (i 0).val < 262144 := (i 0).isLt
  have h1 : (i 1).val < 128 := (i 1).isLt
  have hw : ∀ k : Fin 2, I (ix3 (⟨n.val / 4, by omega⟩ : Fin 262144) (⟨n.val % 4, by omega⟩ : Fin 4) k) = wordAt I k.val n.val := fun k =>
    congrArg I (eq_ofN _ _ _ _ fun q => match q with
      | 0 => rfl
      | 1 => rfl
      | 2 => rfl)
  have s0 : (wordAt I 0 n.val).toNat < 128 := h _
  have s1 : (wordAt I 1 n.val).toNat < 128 := h _
  have hi : i = ix2 (i 0) (i 1) := funext fun q => match q with
    | 0 => rfl
    | 1 => rfl
  rw [Idealize.ShloMosaic.Routing.symm22 n (show n.val / 4 < 262144 by omega) (show n.val % 4 < 4 by omega), key_toNat h n.val hn]
  refine (Eq.to_iff (congrArg (fun j => _ = some j) hi)).trans ((scatter_lands2 _ rfl rfl rfl _ _ _ (i 0) (i 1)).trans ?_)
  rw [pairs_word h, pairs_word h, hw 0, hw 1, toInt_small (by show (wordAt I 0 n.val).toNat < _; omega), toInt_small (by show (wordAt I 1 n.val).toNat < _; omega)]
  show ((wordAt I 0 n.val).toNat : Int) = ((i 0).val : Int) ∧ ((wordAt I 1 n.val).toNat : Int) = ((i 1).val : Int) ↔ _
  unfold flatOf
  omega

/-- The plain scatter read at a cell: the value of the last update, row by row, that names it. -/
theorem plain_last {α : Type} (X : S262144x128.Idx → α) {I : S262144x4x2.Idx → BitVec 32} (h : InRange I) (U : S262144x4.Idx → α) (i : S262144x128.Idx) :
    Host.scatter Cert.ReferenceIdeal.scatter_S262144x128_S262144x4x2_S262144x4_n_01_01_2 (fun _ b => b) X (pairsOf I) U i
      = lastHit (fun p => (keyAt (keys I) p).toNat = flatOf i) (valAt (upds U)) (X i) 1048576 := by
  rw [scatter_at]
  refine foldl_last _ _ _ 1048576 numel_M _ fun a n => if_congr (pair_lands h n i) ?_ rfl
  have hn : n.val < 1048576 := n.isLt.trans_eq numel_M
  rw [lin_val U n.val hn, Idealize.ShloMosaic.Routing.symm22 n (show n.val / 4 < 262144 by omega) (show n.val % 4 < 4 by omega)]
  exact congrArg U (eq_ofN _ _ _ _ fun q => match q with
    | 0 => rfl
    | 1 => rfl)

end Cert.Proof.Sc

end
-- ==== Proof.Values.lean ====
/-
  The program's result against the references: at every cell the scatter of the sorted updates, and at the cells that at most one
  update names the plain scatter.
-/
module

public import proofs.«01_k».proof.Proof.Main
public import proofs.«01_k».proof.Proof.Scatters
public import proofs.«01_k».proof.Proof.Gen.Pre_in_range
public import proofs.«01_k».proof.Proof.Gen.On_settled

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)
open Idealize.ShloMosaic.LaneScatter (lastHit lastHit_cases lastHit_of_last lastHit_of_none lastHit_add lastHit_congr)
open Idealize.ShloMosaic.Routing (foldl_finRange_lastHit scatter_at resultIdx?_ix1 scatter_lands2)
open Idealize.ShloMosaic.ShareLeaves (leaf pointsTo_leaves)

variable {F : FTy → Type}

local notation "𝕄" => MT nD τ sig (HIx 2) (Elt F) ℕ UU ℕ

/-- A fold of ones over the hits counts them. -/
theorem count_fold {ι : Type} (hit : ι → Bool) (l : List ι) (z : ℕ) :
    l.foldl (fun a n => if hit n then IntOp.addi a 1#32 else a) (BitVec.ofNat 32 z) = BitVec.ofNat 32 (z + l.countP hit) := by
  induction l generalizing z with
  | nil => rfl
  | cons n l ih =>
    rw [List.foldl_cons, List.countP_cons]
    by_cases h : hit n = true
    · rw [if_pos h, if_pos h, show IntOp.addi (BitVec.ofNat 32 z) 1#32 = BitVec.ofNat 32 (z + 1) from (BitVec.ofNat_add z 1).symm, ih]
      congr 1; omega
    · rw [if_neg h, if_neg h, ih]; rfl

/-- Two hits among the first `N` positions make the count at least two. -/
theorem one_hit {P : ℕ → Prop} [DecidablePred P] {N : ℕ} (h : Nat.count P N ≤ 1) (p q : ℕ) (hp : p < N) (hq : q < N) (h1 : P p) (h2 : P q) : p = q := by
  have key : ∀ a b, a < b → b < N → P a → P b → False := fun a b hab hb ha hb' => by
    have e1 := Nat.count_strict_mono ha hab
    have e2 := Nat.count_strict_mono hb' hb
    omega
  rcases lt_trichotomy p q with hlt | rfl | hlt
  · exact (key p q hlt hq h1 h2).elim
  · rfl
  · exact (key q p hlt hp h2 h1).elim

theorem sle_one {n : ℕ} (hn : n ≤ 1048576) (h : IntOp.cmpi .sle (BitVec.ofNat 32 n) 1#32 = 1#1) : n ≤ 1 := by
  have ob : ∀ b : Bool, BitVec.ofBool b = 1#1 → b = true := by decide
  have e := ob _ h
  rw [BitVec.sle_eq_decide, decide_eq_true_eq, toInt_small (by rw [BitVec.toNat_ofNat]; omega), BitVec.toNat_ofNat] at e
  have : (1#32 : BitVec 32).toInt = 1 := by decide
  omega

/-- A settled cell is named by at most one update. -/
theorem settled_one [FloatOps F] (X : FVec F S262144x128 .f32) {I : S262144x4x2.Idx → BitVec 32} (h : InRange I) (U : FVec F S262144x4 .f32)
    (i : S262144x128.Idx) (hi : Cert.On_settled.fn (F := F) X I U i = 1#1) (p q : ℕ) (hp : p < 1048576) (hq : q < 1048576)
    (h1 : (keyAt (keys I) p).toNat = flatOf i) (h2 : (keyAt (keys I) q).toNat = flatOf i) : p = q := by
  have e : Host.scatter Cert.ReferenceIdeal.scatter_S262144x128_S262144x4x2_S262144x4_n_01_01_2 IntOp.addi (fun _ => 0#32) (pairsOf I) (fun _ => 1#32) i
      = BitVec.ofNat 32 (Nat.count (fun p => (keyAt (keys I) p).toNat = flatOf i) 1048576) := by
    rw [scatter_at]
    rw [← numel_M, ← Idealize.ShloMosaic.Routing.countP_finRange, ← Nat.zero_add (List.countP _ _)]
    refine Eq.trans ?_ (count_fold _ _ 0)
    refine congrArg (fun f => (List.finRange _).foldl f 0#32) (funext fun a => funext fun n => if_congr ?_ rfl rfl)
    exact (pair_lands h n i).trans decide_eq_true_iff.symm
  refine one_hit (P := fun p => (keyAt (keys I) p).toNat = flatOf i) (sle_one (Nat.count_le _) ?_) p q hp hq h1 h2
  rw [← e]
  exact hi

/-- The keys as the sorted-order reference makes them are the program's keys. -/
theorem ordered_keys (I : S262144x4x2.Idx → BitVec 32) :
    shapeCast Cert.OrderedIdeal.S1048576 (addi (muli (shapeCast Cert.OrderedIdeal.S262144x4 (extractStridedSlice Cert.OrderedIdeal.S262144x4x1 ![0, 0, 0] I Cert.OrderedIdeal.Facts₀.slices_S262144x4x2_S262144x4x1_0_0_0) Cert.OrderedIdeal.Facts₀.shapeCasts_S262144x4x1_S262144x4)
        (broadcastInDim Cert.OrderedIdeal.S262144x4 ![] Cert.OrderedIdeal.Facts₀.bcast_S_S262144x4 (constantI Cert.OrderedIdeal.S_ 32 128#32)))
      (shapeCast Cert.OrderedIdeal.S262144x4 (extractStridedSlice Cert.OrderedIdeal.S262144x4x1 ![0, 0, 1] I Cert.OrderedIdeal.Facts₀.slices_S262144x4x2_S262144x4x1_0_0_1) Cert.OrderedIdeal.Facts₀.shapeCasts_S262144x4x1_S262144x4))
      Cert.OrderedIdeal.Facts₀.shapeCasts_S262144x4_S1048576 = keys I := by
  funext p
  have hp : (p 0).val < 1048576 := (p 0).isLt
  have hw : ∀ k : Fin 2, I (ix3 (⟨(p 0).val / 4, by omega⟩ : Fin 262144) (⟨(p 0).val % 4, by omega⟩ : Fin 4) k) = wordAt I k.val (p 0).val := fun k =>
    congrArg I (eq_ofN _ _ _ _ fun q => match q with
      | 0 => rfl
      | 1 => rfl
      | 2 => rfl)
  refine (shapeCast_apply _ _ p (ix2 (⟨(p 0).val / 4, by omega⟩ : Fin 262144) (⟨(p 0).val % 4, by omega⟩ : Fin 4)) ?_).trans ?_
  · rw [Shape.rowMajor_val_one, Shape.rowMajor_val_two]
    show (p 0).val / 4 * 4 + (p 0).val % 4 = (p 0).val
    omega
  · refine Eq.trans ?_ ((key_words I (p 0).val hp).symm.trans (congrArg (keys I) (eq_ofN _ _ _ _ fun a => by obtain rfl : a = 0 := Subsingleton.elim _ _; rfl).symm))
    exact congrArg₂ (fun a b : BitVec 32 => a * 128#32 + b) ((word_slice I 0 _ _ _).trans (hw 0)) ((word_slice I 1 _ _ _).trans (hw 1))

/-- The updates in a row are the program's. -/
theorem ordered_upds {α : Type} (U : S262144x4.Idx → α) : shapeCast Cert.OrderedIdeal.S1048576 U Cert.OrderedIdeal.Facts₀.shapeCasts_S262144x4_S1048576 = upds U := by
  funext p
  have hp : (p 0).val < 1048576 := (p 0).isLt
  refine (shapeCast_apply _ _ p (ix2 (⟨(p 0).val / 4, by omega⟩ : Fin 262144) (⟨(p 0).val % 4, by omega⟩ : Fin 4)) ?_).trans ?_
  · rw [Shape.rowMajor_val_one, Shape.rowMajor_val_two]
    show (p 0).val / 4 * 4 + (p 0).val % 4 = (p 0).val
    omega
  · refine Eq.trans ?_ ((lin_val U (p 0).val hp).symm.trans (congrArg (upds U) (eq_ofN _ _ _ _ fun a => by obtain rfl : a = 0 := Subsingleton.elim _ _; rfl).symm))
    exact congrArg U (eq_ofN _ _ _ _ fun q => match q with
      | 0 => rfl
      | 1 => rfl)

theorem ob_and (a b : Bool) : IntOp.andi (BitVec.ofBool a) (BitVec.ofBool b) = 1#1 → a = true ∧ b = true := by
  cases a <;> cases b <;> decide

/-- The precondition says that every index word is below 128. -/
theorem in_range [FloatOps F] (X : FVec F S262144x128 .f32) (I : S262144x4x2.Idx → BitVec 32) (U : FVec F S262144x4 .f32)
    (h : Cert.Pre_in_range.fn (F := F) X I U = fun _ => 1#1) : InRange I := fun i => by
  have e := congrFun h i
  obtain ⟨h1, h2⟩ := ob_and ((0#32 : BitVec 32).sle (I i)) ((I i).slt 128#32) e
  rw [BitVec.sle_eq_decide, decide_eq_true_eq] at h1
  rw [BitVec.slt_eq_decide, decide_eq_true_eq] at h2
  have c0 : (0#32 : BitVec 32).toInt = 0 := by decide
  have c1 : (128#32 : BitVec 32).toInt = 128 := by decide
  rw [c0] at h1
  rw [c1] at h2
  rw [BitVec.toInt_eq_toNat_cond] at h1 h2
  split at h1 <;> split at h2 <;> omega

variable (m : (ℓ : Loc nD τ sig) → Buf (Elt F) ℓ) (d : Dev nD)

/-- What the program leaves at a cell: the update of the last sorted position that names it. -/
theorem outV_last [FloatOps F] (hs : KeysOk (keyS m d)) (i : S262144x128.Idx) :
    outV m d i = lastHit (fun p => (keyAt (keyS m d) p).toNat = flatOf i) (valAt (updS m d)) (argX m d i) 1048576 := by
  have h1 : (i 1).val < 128 := (i 1).isLt
  unfold outV
  by_cases h0 : (i 0).val < 128
  · have e0 : (inFirst i 0).val = (i 0).val := ofN_val S128x128 pos_S128x128 ![(i 0).val, (i 1).val] 0 h0
    have e1 : (inFirst i 1).val = (i 1).val := ofN_val S128x128 pos_S128x128 ![(i 0).val, (i 1).val] 1 h1
    have ec : cellOf (inFirst i) = flatOf i := by unfold cellOf flatOf; rw [e0, e1]
    have ei : ofN S262144x128 pos_S262144x128 ![(inFirst i 0).val, (inFirst i 1).val] = i :=
      (eq_ofN S262144x128 pos_S262144x128 ![(inFirst i 0).val, (inFirst i 1).val] i fun q : Fin 2 => match q with
        | 0 => e0.symm
        | 1 => e1.symm).symm
    rw [if_pos h0, merged_planes hs, ec, ei]
  · rw [if_neg h0]
    refine (lastHit_of_none _ _ fun k hk hc => ?_).symm
    have : (keyAt (keyS m d) k).toNat < 16384 := hs _
    unfold flatOf at hc
    omega

theorem sorted_keys [FloatOps F] (h : InRange (argI m d)) : KeysOk (keyS m d) := sorted_ok _ _ _ (keys_ok h)

/-- At a settled cell the program leaves what the plain scatter does. -/
theorem outV_plain [FloatOps F] (h : InRange (argI m d)) (i : S262144x128.Idx)
    (hi : Cert.On_settled.fn (F := F) (argX m d) (argI m d) (argU m d) i = 1#1) :
    outV m d i = Host.scatter Cert.ReferenceIdeal.scatter_S262144x128_S262144x4x2_S262144x4_n_01_01_2 (fun _ b => b) (argX m d) (pairsOf (argI m d)) (argU m d) i :=
  (outV_last m d (sorted_keys m d h) i).trans ((last_sorted _ _ _ _ _ (settled_one (argX m d) h (argU m d) i hi)).trans (plain_last _ h _ i).symm)

theorem plain_args {X X' : S262144x128.Idx → Elt F .f32} {I I' : S262144x4x2.Idx → BitVec 32} {U U' : S262144x4.Idx → Elt F .f32} (h0 : X = X') (h1 : I = I')
    (h2 : U = U') :
    Host.scatter Cert.ReferenceIdeal.scatter_S262144x128_S262144x4x2_S262144x4_n_01_01_2 (fun _ b => b) X (pairsOf I) U
      = Host.scatter Cert.ReferenceIdeal.scatter_S262144x128_S262144x4x2_S262144x4_n_01_01_2 (fun _ b => b) X' (pairsOf I') U' := by
  rw [h0, h1, h2]

/-- The sorted-order reference from keys `x` and values `y` that it sorts. -/
def orderedOf (X : S262144x128.Idx → Elt F .f32) (x : S1048576.Idx → BitVec 32) (y : S1048576.Idx → Elt F .f32) : S262144x128.Idx → Elt F .f32 :=
  shapeCast Cert.OrderedIdeal.S262144x128 (Host.scatter Cert.OrderedIdeal.scatter_S33554432_S1048576x1_S1048576_n_0_0_1 (fun _ b => b)
      (shapeCast Cert.OrderedIdeal.S33554432 X Cert.OrderedIdeal.Facts₀.shapeCasts_S262144x128_S33554432)
      (broadcastInDim Cert.OrderedIdeal.S1048576x1 ![0] Cert.OrderedIdeal.Facts₀.bcast_S1048576_S1048576x1_0
        (select (cmpi .slt (Host.unstableSort2 S1048576 0 (comparator_i32_f32_d0 (F := F)) x y).1
            (broadcastInDim Cert.OrderedIdeal.S1048576 ![] Cert.OrderedIdeal.Facts₀.bcast_S_S1048576 (constantI Cert.OrderedIdeal.S_ 32 0#32)))
          (addi (Host.unstableSort2 S1048576 0 (comparator_i32_f32_d0 (F := F)) x y).1
            (broadcastInDim Cert.OrderedIdeal.S1048576 ![] Cert.OrderedIdeal.Facts₀.bcast_S_S1048576 (constantI Cert.OrderedIdeal.S_ 32 33554432#32)))
          (Host.unstableSort2 S1048576 0 (comparator_i32_f32_d0 (F := F)) x y).1))
      (Host.unstableSort2 S1048576 0 (comparator_i32_f32_d0 (F := F)) x y).2)
    Cert.OrderedIdeal.Facts₀.shapeCasts_S33554432_S262144x128

/-- The program leaves what the sorted-order reference does. -/
theorem outV_ordered [FloatOps F] (h : InRange (argI m d)) (X : S262144x128.Idx → Elt F .f32) (x : S1048576.Idx → BitVec 32) (y : S1048576.Idx → Elt F .f32)
    (hX : X = argX m d) (hx : x = keys (argI m d)) (hy : y = upds (argU m d)) : orderedOf X x y = outV m d := by
  subst hX hx hy
  funext i
  exact (ordered_last _ _ (sorted_keys m d h) _ i).trans (outV_last m d (sorted_keys m d h) i).symm

/-! ## The runs side by side -/

variable [FloatOps F] (ρ : Dev nD → PrngReg)

/-- Every device's indices are in range. -/
def PreAll : Prop := ∀ c : Dev nD, Cert.Pre_in_range.fn (F := F) (argX m c) (argI m c) (argU m c) = fun _ => 1#1

theorem PreAll.keys {m : (ℓ : Loc nD τ sig) → Buf (Elt F) ℓ} (h : PreAll m) (c : Dev nD) : KeysOk (keyS m c) := sorted_keys m c (in_range _ _ _ (h c))

/-- The program runs, leaves its arguments unchanged and every counter at zero. -/
theorem quiet [∀ e, Nonempty (Elt F e)] (h : PreAll m) :
    θ_run (Cert.KernelIdeal.defs (F := F)) (Cert.KernelIdeal.threads (F := F)) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run (Cert.KernelIdeal.defs (F := F)) _ _).mono (fun _ h => ⟨fun c => (h.1 c).2, h.2⟩) (run_main m ρ h.keys)

/-- The program's result. -/
theorem leaves [∀ e, Nonempty (Elt F e)] (h : PreAll m) :
    θ_run (Cert.KernelIdeal.defs (F := F)) (Cert.KernelIdeal.threads (F := F)) ⟨m, fun _ => 0, ρ⟩ fun r => ∀ c : Dev nD,
      r.2.mem ((c.tc : Thread nD τ).loc main_v8) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (Cert.KernelIdeal.defs (F := F)) _ _).mono (fun _ h => h.1) (run_main m ρ h.keys)

/-- The sorted-order reference, from the program's arguments, ends with the program's result. -/
theorem ordered_leaves (h : PreAll m) (m' : (ℓ : Loc Cert.OrderedIdeal.nD Cert.OrderedIdeal.τ Cert.OrderedIdeal.sig) → Buf (Elt F) ℓ)
    (ρ' : Dev Cert.OrderedIdeal.nD → PrngReg)
    (ha : ∀ c : Dev nD, m' ((c.tc : Thread Cert.OrderedIdeal.nD Cert.OrderedIdeal.τ).loc Cert.OrderedIdeal.main_arg0) = argX m c
      ∧ m' ((c.tc : Thread Cert.OrderedIdeal.nD Cert.OrderedIdeal.τ).loc Cert.OrderedIdeal.main_arg1) = argI m c
      ∧ m' ((c.tc : Thread Cert.OrderedIdeal.nD Cert.OrderedIdeal.τ).loc Cert.OrderedIdeal.main_arg2) = argU m c) :
    θ_run (Cert.OrderedIdeal.defs (F := F)) (onTc (τ := Cert.OrderedIdeal.τ) (Cert.OrderedIdeal.main (F := F))) ⟨m', fun _ => 0, ρ'⟩ fun r =>
      ∀ c : Dev Cert.OrderedIdeal.nD,
        r.2.mem ((c.tc : Thread Cert.OrderedIdeal.nD Cert.OrderedIdeal.τ).loc Cert.OrderedIdeal.main_v18) = outV m c
        ∧ r.2.mem ((c.tc : Thread Cert.OrderedIdeal.nD Cert.OrderedIdeal.τ).loc Cert.OrderedIdeal.main_arg0) = m' ((c.tc : Thread Cert.OrderedIdeal.nD Cert.OrderedIdeal.τ).loc Cert.OrderedIdeal.main_arg0)
        ∧ r.2.mem ((c.tc : Thread Cert.OrderedIdeal.nD Cert.OrderedIdeal.τ).loc Cert.OrderedIdeal.main_arg1) = m' ((c.tc : Thread Cert.OrderedIdeal.nD Cert.OrderedIdeal.τ).loc Cert.OrderedIdeal.main_arg1)
        ∧ r.2.mem ((c.tc : Thread Cert.OrderedIdeal.nD Cert.OrderedIdeal.τ).loc Cert.OrderedIdeal.main_arg2) = m' ((c.tc : Thread Cert.OrderedIdeal.nD Cert.OrderedIdeal.τ).loc Cert.OrderedIdeal.main_arg2) :=
  (θ_run (Cert.OrderedIdeal.defs (F := F)) _ _).mono (fun _ hr c => ⟨(hr c).1.trans
      (outV_ordered m c (in_range _ _ _ (h c)) _ _ _ (ha c).1
        ((ordered_keys _).trans (congrArg keys (ha c).2.1)) ((ordered_upds _).trans (congrArg upds (ha c).2.2))), (hr c).2⟩)
    (Cert.OrderedIdeal.Value.run (F := F) m' ρ')

/-- The plain reference, from the program's arguments, ends with the program's result at every settled cell. -/
theorem plain_leaves (h : PreAll m) (m' : (ℓ : Loc Cert.ReferenceIdeal.nD Cert.ReferenceIdeal.τ Cert.ReferenceIdeal.sig) → Buf (Elt F) ℓ)
    (ρ' : Dev Cert.ReferenceIdeal.nD → PrngReg)
    (ha : ∀ c : Dev nD, m' ((c.tc : Thread Cert.ReferenceIdeal.nD Cert.ReferenceIdeal.τ).loc Cert.ReferenceIdeal.main_arg0) = argX m c
      ∧ m' ((c.tc : Thread Cert.ReferenceIdeal.nD Cert.ReferenceIdeal.τ).loc Cert.ReferenceIdeal.main_arg1) = argI m c
      ∧ m' ((c.tc : Thread Cert.ReferenceIdeal.nD Cert.ReferenceIdeal.τ).loc Cert.ReferenceIdeal.main_arg2) = argU m c) :
    θ_run (Cert.ReferenceIdeal.defs (F := F)) (onTc (τ := Cert.ReferenceIdeal.τ) (Cert.ReferenceIdeal.main (F := F))) ⟨m', fun _ => 0, ρ'⟩ fun r =>
      ∀ c : Dev Cert.ReferenceIdeal.nD,
        (∀ i : S262144x128.Idx, Cert.On_settled.fn (F := F) (argX m c) (argI m c) (argU m c) i = 1#1 →
          r.2.mem ((c.tc : Thread Cert.ReferenceIdeal.nD Cert.ReferenceIdeal.τ).loc Cert.ReferenceIdeal.main_v17) i = outV m c i)
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2) :=
  (θ_run (Cert.ReferenceIdeal.defs (F := F)) _ _).mono (fun _ hr c => ⟨fun i hi =>
      (congrFun (hr c).1 i).trans ((congrFun (plain_args (ha c).1 (ha c).2.1 (ha c).2.2) i).trans (outV_plain m c (in_range _ _ _ (h c)) i hi).symm), (hr c).2⟩)
    (Cert.ReferenceIdeal.Value.run (F := F) m' ρ')

end Cert.Proof.Sc

end
-- ==== Proof.Same.lean ====
/-
  The kernel and the kernel read over the extended reals are the same text, so at the words of the machine they are the same program.
-/
module

public import proofs.«01_k».proof.Defs
public import proofs.«01_k».proof.Proof.Gen.Kernel
public import proofs.«01_k».proof.Proof.Gen.KernelIdeal

@[expose] public section

noncomputable section

namespace Cert.Proof.Sc

open Idealize.ShloMosaic Idealize.SL.Sem

/-- The kernels' bodies, label by label. -/
theorem same_body : ∀ (c : Proc Cert.Kernel.τ) (ℓ : Fin 4) (a : Cert.Kernel.Λ₀.Args ℓ),
    Cert.Kernel.defs₀ (F := Bits) c ℓ a = Cert.KernelIdeal.defs₀ (F := Bits) c ℓ a
  | .tc, 0, _ => rfl
  | .tc, 1, (_, _) => rfl
  | .tc, 2, _ => rfl
  | .tc, 3, (_, _) => rfl
  | .scVector _ _, 0, _ => rfl
  | .scVector _ _, 1, _ => rfl
  | .scVector _ _, 2, _ => rfl
  | .scVector _ _, 3, _ => rfl
  | .scScalar _, 0, _ => rfl
  | .scScalar _, 1, _ => rfl
  | .scScalar _, 2, _ => rfl
  | .scScalar _, 3, _ => rfl

theorem same_bodies : Cert.Kernel.defs₀ (F := Bits) = Cert.KernelIdeal.defs₀ (F := Bits) :=
  funext fun c => funext fun ℓ => funext fun a => same_body c ℓ a

/-- All the procedures. -/
theorem same_defs : Cert.Kernel.defs (F := Bits) = Cert.KernelIdeal.defs (F := Bits) :=
  congrArg (fun D => (Cert.Kernel.sc (F := Bits)).defs (Pipeline.defs Cert.Kernel.pcfgs D)) same_bodies

/-- What holds of every run of the one holds of every run of the other. -/
theorem same_run (m : (ℓ : Loc Cert.Kernel.nD Cert.Kernel.τ Cert.Kernel.sig) → Buf (Elt Bits) ℓ) (ρ : Dev Cert.Kernel.nD → PrngReg)
    (Q : _ → Prop) (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q :=
  (congrArg (fun D => θ_run D (Cert.Kernel.threads (F := Bits)) ⟨m, fun _ => 0, ρ⟩ Q) same_defs).mpr h

end Cert.Proof.Sc

end
-- ==== Proof.lean ====
/-
  The certificate's claim: the program's frames, and its result against the sorted-order scatter (everywhere) and the plain scatter
  (at every cell that at most one update names). The runs are those of Proof/Values.lean, at either reading of the floats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.OrderedIdeal
public import proofs.«01_k».proof.Proof.Gen.OrderedIdeal.Run
public import proofs.«01_k».proof.Proof.Gen.Reference
public import proofs.«01_k».proof.Proof.Gen.Ordered
public import proofs.«01_k».proof.Proof.Gen.Pre_in_range
public import proofs.«01_k».proof.Proof.Gen.On_settled
public import proofs.«01_k».proof.Proof.Values
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates without fault, its arguments unchanged, every counter at zero. -/
theorem quiescent_Kernel : Cert.quiescent_Kernel := fun m ρ h => Sc.same_run m ρ _ (Sc.quiet (F := Bits) m ρ h)
/-- So does the kernel over the extended reals. -/
theorem quiescent_KernelIdeal : Cert.quiescent_KernelIdeal := fun m ρ h => Sc.quiet (F := Ideal) m ρ h

/-! The references run on the host alone, and declare no semaphore. -/

theorem quiescent_ReferenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem quiescent_OrderedIdeal : Cert.quiescent_OrderedIdeal := fun m ρ _ =>
  (θ_run (Cert.OrderedIdeal.defs (F := Ideal)) _ _).mono (fun r h => ⟨fun c => (h c).2, sem_eq_zero_of_no_sems (by decide) r.2⟩)
    (Cert.OrderedIdeal.Value.run (F := Ideal) m ρ)

theorem quiescent_ReferenceIdeal_pre_in_range : Cert.quiescent_ReferenceIdeal_pre_in_range := fun m ρ _ => quiescent_ReferenceIdeal m ρ trivial
theorem quiescent_OrderedIdeal_pre_in_range : Cert.quiescent_OrderedIdeal_pre_in_range := fun m ρ _ => quiescent_OrderedIdeal m ρ trivial

theorem quiescent_Ordered : Cert.quiescent_Ordered := fun m ρ _ =>
  (θ_run (Cert.Ordered.defs (F := Bits)) _ _).mono (fun r h => ⟨fun c => (h c).2, sem_eq_zero_of_no_sems (by decide) r.2⟩)
    (Cert.OrderedIdeal.Value.run (F := Bits) m ρ)

theorem quiescent_Reference : Cert.quiescent_Reference := fun m ρ _ =>
  (θ_run (Cert.Reference.defs (F := Bits)) _ _).mono (fun r h => ⟨fun c => (h c).2, sem_eq_zero_of_no_sems (by decide) r.2⟩)
    (Cert.ReferenceIdeal.Value.run (F := Bits) m ρ)

/-- Over the extended reals the kernel's whole result is the sorted-order scatter's. -/
theorem algebraic_ordered : Cert.algebraic_KernelIdeal_OrderedIdeal := fun m ρ m' ρ' h ha =>
  ⟨Sc.outV (F := Ideal) m, Sc.leaves (F := Ideal) m ρ h, Sc.ordered_leaves (F := Ideal) m h m' ρ' ha⟩

/-- Over the extended reals the kernel's result is the plain scatter's at every settled cell. -/
theorem algebraic_settled : Cert.algebraic_KernelIdeal_ReferenceIdeal_on_settled := fun m ρ m' ρ' h ha =>
  ⟨Sc.outV (F := Ideal) m, (θ_run (Cert.KernelIdeal.defs (F := Ideal)) _ _).mono (fun _ hr c => ⟨fun i _ => congrFun (hr c).1 i, (hr c).2⟩)
    (Sc.leaves (F := Ideal) m ρ h), Sc.plain_leaves (F := Ideal) m h m' ρ' ha⟩

/-- Word for word the kernel's whole result is the sorted-order scatter's. -/
theorem bitexact_ordered : Cert.bitexact_Kernel_Ordered := fun m ρ m' ρ' h ha =>
  ⟨Sc.outV (F := Bits) m, Sc.same_run m ρ _ (Sc.leaves (F := Bits) m ρ h), Sc.ordered_leaves (F := Bits) m h m' ρ' ha⟩

/-- Word for word the kernel's result is the plain scatter's at every settled cell. -/
theorem bitexact_settled : Cert.bitexact_Kernel_Reference_on_settled := fun m ρ m' ρ' h ha =>
  ⟨Sc.outV (F := Bits) m, Sc.same_run m ρ _ ((θ_run (Cert.KernelIdeal.defs (F := Bits)) _ _).mono (fun _ hr c => ⟨fun i _ => congrFun (hr c).1 i, (hr c).2⟩)
    (Sc.leaves (F := Bits) m ρ h)), Sc.plain_leaves (F := Bits) m h m' ρ' ha⟩

/-- Everything the certificate claims. -/
theorem claim : Cert.Claim :=
  ⟨Cert.Kernel.Gen.facts, Cert.KernelIdeal.Gen.facts, Cert.ReferenceIdeal.Gen.facts, Cert.OrderedIdeal.Gen.facts, Cert.Ordered.Gen.facts,
    Cert.Reference.Gen.facts, Cert.Pre_in_range.Gen.facts, Cert.On_settled.Gen.facts,
    quiescent_Kernel, quiescent_KernelIdeal, quiescent_ReferenceIdeal, quiescent_ReferenceIdeal_pre_in_range, quiescent_OrderedIdeal,
    quiescent_OrderedIdeal_pre_in_range, quiescent_Ordered, quiescent_Reference, trivial, algebraic_ordered, algebraic_settled,
    bitexact_ordered, bitexact_settled⟩

end Cert.Proof

end
